-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_ProjEven (m : (ℓ : Loc Cert.ProjEven.nD Cert.ProjEven.τ Cert.ProjEven.sig) → Buf (Elt Bits) ℓ) : Prop :=
  True

def Pre_ProjEvenIdeal (m : (ℓ : Loc Cert.ProjEvenIdeal.nD Cert.ProjEvenIdeal.τ Cert.ProjEvenIdeal.sig) → Buf (Elt Ideal) ℓ) : Prop :=
  True

def Pre_ProjEvenRefIdeal (m : (ℓ : Loc Cert.ProjEvenRefIdeal.nD Cert.ProjEvenRefIdeal.τ Cert.ProjEvenRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_ProjEven [hProjEven : Cert.ProjEven.Facts] : Prop :=
  ∀ (m : (ℓ : Loc Cert.ProjEven.nD Cert.ProjEven.τ Cert.ProjEven.sig) → Buf (Elt Bits) ℓ) (g : Dev Cert.ProjEven.nD → PrngReg), Pre_ProjEven m →
    θ_run (Cert.ProjEven.defs (F := Bits)) (onTc (τ := Cert.ProjEven.τ) (Cert.ProjEven.main (F := Bits))) ⟨m, fun _ => 0, g⟩ (fun r => (∀ c : Dev Cert.ProjEven.nD,
      r.2.mem ((c.tc : Thread Cert.ProjEven.nD Cert.ProjEven.τ).loc Cert.ProjEven.main_arg0) = m ((c.tc : Thread Cert.ProjEven.nD Cert.ProjEven.τ).loc Cert.ProjEven.main_arg0)
      ∧ r.2.mem ((c.tc : Thread Cert.ProjEven.nD Cert.ProjEven.τ).loc Cert.ProjEven.main_arg1) = m ((c.tc : Thread Cert.ProjEven.nD Cert.ProjEven.τ).loc Cert.ProjEven.main_arg1)
      ∧ r.2.mem ((c.tc : Thread Cert.ProjEven.nD Cert.ProjEven.τ).loc Cert.ProjEven.main_arg2) = m ((c.tc : Thread Cert.ProjEven.nD Cert.ProjEven.τ).loc Cert.ProjEven.main_arg2))
      ∧ r.2.sem = fun _ => 0)

def quiescent_ProjEvenIdeal [hProjEvenIdeal : Cert.ProjEvenIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg), Pre_ProjEvenIdeal m →
    θ_run (Cert.ProjEvenIdeal.defs (F := Ideal)) (onTc (τ := Cert.ProjEvenIdeal.τ) (Cert.ProjEvenIdeal.main (F := Ideal))) ⟨m, fun _ => 0, g⟩ (fun r => (∀ c : Dev Cert.ProjEvenIdeal.nD,
      r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
      ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
      ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2))
      ∧ r.2.sem = fun _ => 0)

def quiescent_ProjEvenRefIdeal [hProjEvenRefIdeal : Cert.ProjEvenRefIdeal.Facts] : Prop :=
  ∀ (m : (ℓ : Loc Cert.ProjEvenRefIdeal.nD Cert.ProjEvenRefIdeal.τ Cert.ProjEvenRefIdeal.sig) → Buf (Elt Ideal) ℓ) (g : Dev Cert.ProjEvenRefIdeal.nD → PrngReg), Pre_ProjEvenRefIdeal m →
    θ_run (Cert.ProjEvenRefIdeal.defs (F := Ideal)) (onTc (τ := Cert.ProjEvenRefIdeal.τ) (Cert.ProjEvenRefIdeal.main (F := Ideal))) ⟨m, fun _ => 0, g⟩ (fun r => (∀ c : Dev Cert.ProjEvenRefIdeal.nD,
      r.2.mem ((c.tc : Thread Cert.ProjEvenRefIdeal.nD Cert.ProjEvenRefIdeal.τ).loc Cert.ProjEvenRefIdeal.main_arg0) = m ((c.tc : Thread Cert.ProjEvenRefIdeal.nD Cert.ProjEvenRefIdeal.τ).loc Cert.ProjEvenRefIdeal.main_arg0)
      ∧ r.2.mem ((c.tc : Thread Cert.ProjEvenRefIdeal.nD Cert.ProjEvenRefIdeal.τ).loc Cert.ProjEvenRefIdeal.main_arg1) = m ((c.tc : Thread Cert.ProjEvenRefIdeal.nD Cert.ProjEvenRefIdeal.τ).loc Cert.ProjEvenRefIdeal.main_arg1)
      ∧ r.2.mem ((c.tc : Thread Cert.ProjEvenRefIdeal.nD Cert.ProjEvenRefIdeal.τ).loc Cert.ProjEvenRefIdeal.main_arg2) = m ((c.tc : Thread Cert.ProjEvenRefIdeal.nD Cert.ProjEvenRefIdeal.τ).loc Cert.ProjEvenRefIdeal.main_arg2))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1)
      ∧ r.2.mem ((c.tc : Thread Cert.ProjGate.nD Cert.ProjGate.τ).loc Cert.ProjGate.main_arg2) = m ((c.tc : Thread Cert.ProjGate.nD Cert.ProjGate.τ).loc Cert.ProjGate.main_arg2))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1)
      ∧ r.2.mem ((c.tc : Thread Cert.ProjGateIdeal.nD Cert.ProjGateIdeal.τ).loc Cert.ProjGateIdeal.main_arg2) = m ((c.tc : Thread Cert.ProjGateIdeal.nD Cert.ProjGateIdeal.τ).loc Cert.ProjGateIdeal.main_arg2))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1)
      ∧ r.2.mem ((c.tc : Thread Cert.ProjGateRefIdeal.nD Cert.ProjGateRefIdeal.τ).loc Cert.ProjGateRefIdeal.main_arg2) = m ((c.tc : Thread Cert.ProjGateRefIdeal.nD Cert.ProjGateRefIdeal.τ).loc Cert.ProjGateRefIdeal.main_arg2))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)
      ∧ r.2.mem ((c.tc : Thread Cert.OutOddRefIdeal.nD Cert.OutOddRefIdeal.τ).loc Cert.OutOddRefIdeal.main_arg4) = m ((c.tc : Thread Cert.OutOddRefIdeal.nD Cert.OutOddRefIdeal.τ).loc Cert.OutOddRefIdeal.main_arg4))
      ∧ r.2.sem = fun _ => 0)

def preserves_Kernel_KernelIdeal : Prop :=
  IdealRules.named_const.Statement Cert.KernelIdeal.κ "scale" .f32 0x3E38AA3B#32 (((8 * (Real.log 2))⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)) (v5 : (c : Dev Cert.KernelIdeal.nD) → Buf (Elt Ideal) ((c.tc : Thread Cert.KernelIdeal.nD Cert.KernelIdeal.τ).loc Cert.KernelIdeal.main_v35_5)) (v6 : (c : Dev Cert.KernelIdeal.nD) → Buf (Elt Ideal) ((c.tc : Thread Cert.KernelIdeal.nD Cert.KernelIdeal.τ).loc Cert.KernelIdeal.main_v35_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v35_4) = v4 c
          ∧ r.2.mem ((c.tc : Thread Cert.KernelIdeal.nD Cert.KernelIdeal.τ).loc Cert.KernelIdeal.main_v35_5) = v5 c
          ∧ r.2.mem ((c.tc : Thread Cert.KernelIdeal.nD Cert.KernelIdeal.τ).loc Cert.KernelIdeal.main_v35_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v128) = v4 c
          ∧ r.2.mem ((c.tc : Thread Cert.ReferenceIdeal.nD Cert.ReferenceIdeal.τ).loc Cert.ReferenceIdeal.main_v129) = v5 c
          ∧ r.2.mem ((c.tc : Thread Cert.ReferenceIdeal.nD Cert.ReferenceIdeal.τ).loc Cert.ReferenceIdeal.main_v130) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)) →
    ∃ (v0 : (c : Dev Cert.FfnFirstIdeal.nD) → Buf (Elt Ideal) ((c.tc : Thread Cert.FfnFirstIdeal.nD Cert.FfnFirstIdeal.τ).loc Cert.FfnFirstIdeal.main_v7)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v7) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v27) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v8)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v8) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v63) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_ProjEven_ProjEvenIdeal : Prop :=
  True

def algebraic_ProjEvenIdeal_ProjEvenRefIdeal [hProjEvenIdeal : Cert.ProjEvenIdeal.Facts] [hProjEvenRefIdeal : Cert.ProjEvenRefIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg)
    (m' : (ℓ : Loc Cert.ProjEvenRefIdeal.nD Cert.ProjEvenRefIdeal.τ Cert.ProjEvenRefIdeal.sig) → Buf (Elt Ideal) ℓ) (g' : Dev Cert.ProjEvenRefIdeal.nD → PrngReg), Pre_ProjEvenIdeal m →
    (∀ c : Dev Cert.ProjEvenIdeal.nD,
      m' ((c.tc : Thread Cert.ProjEvenRefIdeal.nD Cert.ProjEvenRefIdeal.τ).loc Cert.ProjEvenRefIdeal.main_arg0) = m ((c.tc : Thread Cert.ProjEvenIdeal.nD Cert.ProjEvenIdeal.τ).loc Cert.ProjEvenIdeal.main_arg0)
      ∧ m' ((c.tc : Thread Cert.ProjEvenRefIdeal.nD Cert.ProjEvenRefIdeal.τ).loc Cert.ProjEvenRefIdeal.main_arg1) = m ((c.tc : Thread Cert.ProjEvenIdeal.nD Cert.ProjEvenIdeal.τ).loc Cert.ProjEvenIdeal.main_arg1)
      ∧ m' ((c.tc : Thread Cert.ProjEvenRefIdeal.nD Cert.ProjEvenRefIdeal.τ).loc Cert.ProjEvenRefIdeal.main_arg2) = m ((c.tc : Thread Cert.ProjEvenIdeal.nD Cert.ProjEvenIdeal.τ).loc Cert.ProjEvenIdeal.main_arg2)) →
    ∃ (v0 : (c : Dev Cert.ProjEvenIdeal.nD) → Buf (Elt Ideal) ((c.tc : Thread Cert.ProjEvenIdeal.nD Cert.ProjEvenIdeal.τ).loc Cert.ProjEvenIdeal.main_v5)),
      θ_run (Cert.ProjEvenIdeal.defs (F := Ideal)) (onTc (τ := Cert.ProjEvenIdeal.τ) (Cert.ProjEvenIdeal.main (F := Ideal))) ⟨m, fun _ => 0, g⟩ (fun r => ∀ c : Dev Cert.ProjEvenIdeal.nD,
          r.2.mem ((c.tc : Thread Cert.ProjEvenIdeal.nD Cert.ProjEvenIdeal.τ).loc Cert.ProjEvenIdeal.main_v5) = v0 c
          ∧ r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
          ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
          ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2))
      ∧ θ_run (Cert.ProjEvenRefIdeal.defs (F := Ideal)) (onTc (τ := Cert.ProjEvenRefIdeal.τ) (Cert.ProjEvenRefIdeal.main (F := Ideal))) ⟨m', fun _ => 0, g'⟩ (fun r => ∀ c : Dev Cert.ProjEvenRefIdeal.nD,
          r.2.mem ((c.tc : Thread Cert.ProjEvenRefIdeal.nD Cert.ProjEvenRefIdeal.τ).loc Cert.ProjEvenRefIdeal.main_v17) = v0 c
          ∧ r.2.mem ((c.tc : Thread Cert.ProjEvenRefIdeal.nD Cert.ProjEvenRefIdeal.τ).loc Cert.ProjEvenRefIdeal.main_arg0) = m' ((c.tc : Thread Cert.ProjEvenRefIdeal.nD Cert.ProjEvenRefIdeal.τ).loc Cert.ProjEvenRefIdeal.main_arg0)
          ∧ r.2.mem ((c.tc : Thread Cert.ProjEvenRefIdeal.nD Cert.ProjEvenRefIdeal.τ).loc Cert.ProjEvenRefIdeal.main_arg1) = m' ((c.tc : Thread Cert.ProjEvenRefIdeal.nD Cert.ProjEvenRefIdeal.τ).loc Cert.ProjEvenRefIdeal.main_arg1)
          ∧ r.2.mem ((c.tc : Thread Cert.ProjEvenRefIdeal.nD Cert.ProjEvenRefIdeal.τ).loc Cert.ProjEvenRefIdeal.main_arg2) = m' ((c.tc : Thread Cert.ProjEvenRefIdeal.nD Cert.ProjEvenRefIdeal.τ).loc Cert.ProjEvenRefIdeal.main_arg2))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)
      ∧ m' ((c.tc : Thread Cert.ProjGateRefIdeal.nD Cert.ProjGateRefIdeal.τ).loc Cert.ProjGateRefIdeal.main_arg2) = m ((c.tc : Thread Cert.ProjGateIdeal.nD Cert.ProjGateIdeal.τ).loc Cert.ProjGateIdeal.main_arg2)) →
    ∃ (v0 : (c : Dev Cert.ProjGateIdeal.nD) → Buf (Elt Ideal) ((c.tc : Thread Cert.ProjGateIdeal.nD Cert.ProjGateIdeal.τ).loc Cert.ProjGateIdeal.main_v5_0)) (v1 : (c : Dev Cert.ProjGateIdeal.nD) → Buf (Elt Ideal) ((c.tc : Thread Cert.ProjGateIdeal.nD Cert.ProjGateIdeal.τ).loc Cert.ProjGateIdeal.main_v5_1)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v5_0) = v0 c
          ∧ r.2.mem ((c.tc : Thread Cert.ProjGateIdeal.nD Cert.ProjGateIdeal.τ).loc Cert.ProjGateIdeal.main_v5_1) = v1 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1)
          ∧ r.2.mem ((c.tc : Thread Cert.ProjGateIdeal.nD Cert.ProjGateIdeal.τ).loc Cert.ProjGateIdeal.main_arg2) = m ((c.tc : Thread Cert.ProjGateIdeal.nD Cert.ProjGateIdeal.τ).loc Cert.ProjGateIdeal.main_arg2))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v18) = v0 c
          ∧ r.2.mem ((c.tc : Thread Cert.ProjGateRefIdeal.nD Cert.ProjGateRefIdeal.τ).loc Cert.ProjGateRefIdeal.main_v20) = v1 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1)
          ∧ r.2.mem ((c.tc : Thread Cert.ProjGateRefIdeal.nD Cert.ProjGateRefIdeal.τ).loc Cert.ProjGateRefIdeal.main_arg2) = m' ((c.tc : Thread Cert.ProjGateRefIdeal.nD Cert.ProjGateRefIdeal.τ).loc Cert.ProjGateRefIdeal.main_arg2))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)) →
    ∃ (v0 : (c : Dev Cert.OutEvenIdeal.nD) → Buf (Elt Ideal) ((c.tc : Thread Cert.OutEvenIdeal.nD Cert.OutEvenIdeal.τ).loc Cert.OutEvenIdeal.main_v4)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v4) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v5) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)
      ∧ m' ((c.tc : Thread Cert.OutOddRefIdeal.nD Cert.OutOddRefIdeal.τ).loc Cert.OutOddRefIdeal.main_arg4) = m ((c.tc : Thread Cert.OutOddIdeal.nD Cert.OutOddIdeal.τ).loc Cert.OutOddIdeal.main_arg4)) →
    ∃ (v0 : (c : Dev Cert.OutOddIdeal.nD) → Buf (Elt Ideal) ((c.tc : Thread Cert.OutOddIdeal.nD Cert.OutOddIdeal.τ).loc Cert.OutOddIdeal.main_v6)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v6) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v19) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3)
          ∧ r.2.mem ((c.tc : Thread Cert.OutOddRefIdeal.nD Cert.OutOddRefIdeal.τ).loc Cert.OutOddRefIdeal.main_arg4) = m' ((c.tc : Thread Cert.OutOddRefIdeal.nD Cert.OutOddRefIdeal.τ).loc Cert.OutOddRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnFirst : Cert.FfnFirst.Facts) (hFfnFirstIdeal : Cert.FfnFirstIdeal.Facts) (hFfnFirstRefIdeal : Cert.FfnFirstRefIdeal.Facts) (hGmlp : Cert.Gmlp.Facts) (hGmlpIdeal : Cert.GmlpIdeal.Facts) (hGmlpRefIdeal : Cert.GmlpRefIdeal.Facts) (hProjEven : Cert.ProjEven.Facts) (hProjEvenIdeal : Cert.ProjEvenIdeal.Facts) (hProjEvenRefIdeal : Cert.ProjEvenRefIdeal.Facts) (hProjGate : Cert.ProjGate.Facts) (hProjGateIdeal : Cert.ProjGateIdeal.Facts) (hProjGateRefIdeal : Cert.ProjGateRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Ffn (hFfn := hFfn)
    ∧ quiescent_FfnIdeal (hFfnIdeal := hFfnIdeal)
    ∧ quiescent_FfnRefIdeal (hFfnRefIdeal := hFfnRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_ProjEven (hProjEven := hProjEven)
    ∧ quiescent_ProjEvenIdeal (hProjEvenIdeal := hProjEvenIdeal)
    ∧ quiescent_ProjEvenRefIdeal (hProjEvenRefIdeal := hProjEvenRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Ffn_FfnIdeal
    ∧ algebraic_FfnIdeal_FfnRefIdeal (hFfnIdeal := hFfnIdeal) (hFfnRefIdeal := hFfnRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_Gmlp_GmlpIdeal
    ∧ algebraic_GmlpIdeal_GmlpRefIdeal (hGmlpIdeal := hGmlpIdeal) (hGmlpRefIdeal := hGmlpRefIdeal)
    ∧ preserves_ProjEven_ProjEvenIdeal
    ∧ algebraic_ProjEvenIdeal_ProjEvenRefIdeal (hProjEvenIdeal := hProjEvenIdeal) (hProjEvenRefIdeal := hProjEvenRefIdeal)
    ∧ preserves_ProjGate_ProjGateIdeal
    ∧ algebraic_ProjGateIdeal_ProjGateRefIdeal (hProjGateIdeal := hProjGateIdeal) (hProjGateRefIdeal := hProjGateRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
-- ==== Pre_finite_args.lean ====
abbrev S4x2048x5120 : Shape := ⟨3, ![4, 2048, 5120]⟩
abbrev S1x64 : Shape := ⟨2, ![1, 64]⟩
abbrev S1x128 : Shape := ⟨2, ![1, 128]⟩
abbrev S2x2048x5632 : Shape := ⟨3, ![2, 2048, 5632]⟩
abbrev S2x5632x2048 : Shape := ⟨3, ![2, 5632, 2048]⟩
abbrev S1x2048x10240 : Shape := ⟨3, ![1, 2048, 10240]⟩
abbrev S1x2048x2048 : Shape := ⟨3, ![1, 2048, 2048]⟩
abbrev S4x2048x3072 : Shape := ⟨3, ![4, 2048, 3072]⟩
abbrev S_ : Shape := ⟨0, ![]⟩

class Facts : Prop where
  slices_S4x2048x5120_S4x2048x3072_0_0_0 : S4x2048x5120.Slices ![0, 0, 0] S4x2048x3072
  bcast_S_S4x2048x3072 : S_.BroadcastsInDim S4x2048x3072 (![] : Fin 0 → Fin S4x2048x3072.rank)
  bcast_S_S1x64 : S_.BroadcastsInDim S1x64 (![] : Fin 0 → Fin S1x64.rank)

variable [Facts]

def fn {F : FTy → Type} [FloatOps F] (main_arg0 : FVec F S4x2048x5120 .f32) (main_arg1 : FVec F S1x64 .f32) (main_arg2 : FVec F S1x64 .f32) (main_arg3 : FVec F S1x64 .f32) (main_arg4 : FVec F S1x64 .f32) (main_arg5 : FVec F S1x128 .f32) (main_arg6 : FVec F S2x2048x5632 .f32) (main_arg7 : FVec F S2x2048x5632 .f32) (main_arg8 : FVec F S2x5632x2048 .f32) (main_arg9 : FVec F S1x2048x10240 .f32) (main_arg10 : FVec F S1x2048x2048 .f32) (main_arg11 : FVec F S1x2048x2048 .f32) : IVec S4x2048x3072 1 × IVec S1x64 1 × IVec S1x64 1 × IVec S1x64 1 × IVec S1x64 1 :=
  let main_v0 : FVec F S4x2048x3072 .f32 := (extractStridedSlice S4x2048x3072 ![0, 0, 0] · slices_S4x2048x5120_S4x2048x3072_0_0_0) main_arg0
  let main_v1 : FVec F S4x2048x3072 .f32 := Host.absf main_v0
  let main_cst : FVec F S_ .f32 := constant S_ .f32 0x7F800000#32
  let main_v2 : FVec F S4x2048x3072 .f32 := broadcastInDim S4x2048x3072 ![] bcast_S_S4x2048x3072 main_cst
  let main_v3 : IVec S4x2048x3072 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg4
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  (main_v3, main_v6, main_v9, main_v12, main_v15)
-- ==== Kernel.lean ====
abbrev S4x2048x5120 : Shape := ⟨3, ![4, 2048, 5120]⟩
abbrev S1x64 : Shape := ⟨2, ![1, 64]⟩
abbrev S1x128 : Shape := ⟨2, ![1, 128]⟩
abbrev S2x2048x5632 : Shape := ⟨3, ![2, 2048, 5632]⟩
abbrev S2x5632x2048 : Shape := ⟨3, ![2, 5632, 2048]⟩
abbrev S1x2048x10240 : Shape := ⟨3, ![1, 2048, 10240]⟩
abbrev S1x2048x2048 : Shape := ⟨3, ![1, 2048, 2048]⟩
abbrev S64 : Shape := ⟨1, ![64]⟩
abbrev S4x64 : Shape := ⟨2, ![4, 64]⟩
abbrev S128 : Shape := ⟨1, ![128]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x128 : Shape := ⟨2, ![2048, 128]⟩
abbrev S4x2048x1024 : Shape := ⟨3, ![4, 2048, 1024]⟩
abbrev S1x2048x128 : Shape := ⟨3, ![1, 2048, 128]⟩
abbrev S1x128x5632 : Shape := ⟨3, ![1, 128, 5632]⟩
abbrev S1x352x2048 : Shape := ⟨3, ![1, 352, 2048]⟩
abbrev S1x64x10240 : Shape := ⟨3, ![1, 64, 10240]⟩
abbrev S1x64x2048 : Shape := ⟨3, ![1, 64, 2048]⟩
abbrev S2048x256 : Shape := ⟨2, ![2048, 256]⟩
abbrev S1 : Shape := ⟨1, ![1]⟩
abbrev S1x1 : Shape := ⟨2, ![1, 1]⟩
abbrev S128x128 : Shape := ⟨2, ![128, 128]⟩
abbrev S1x128x128 : Shape := ⟨3, ![1, 128, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S128x1 : Shape := ⟨2, ![128, 1]⟩

abbrev nBuf : Space → Nat
  | .hbm => 59
  | .vmem => 39
  | .smem => 0
  | _ => 0

abbrev bufTy : (tb : Table) → Fin (tcTables nBuf tb) → BufTy
  | .hbm, ⟨0, _⟩ => ⟨S4x2048x5120, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S2x2048x5632, .f32⟩
  | .hbm, ⟨7, _⟩ => ⟨S2x2048x5632, .f32⟩
  | .hbm, ⟨8, _⟩ => ⟨S2x5632x2048, .f32⟩
  | .hbm, ⟨9, _⟩ => ⟨S1x2048x10240, .f32⟩
  | .hbm, ⟨10, _⟩ => ⟨S1x2048x2048, .f32⟩
  | .hbm, ⟨11, _⟩ => ⟨S1x2048x2048, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S4x64, .f32⟩
  | .hbm, ⟨21, _⟩ => ⟨S128, .f32⟩
  | .hbm, ⟨22, _⟩ => ⟨S2048, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S2048x1, .f32⟩
  | .hbm, ⟨32, _⟩ => ⟨S1x8, .f32⟩
  | .hbm, ⟨33, _⟩ => ⟨S2048x8, .f32⟩
  | .hbm, ⟨34, _⟩ => ⟨S2048x8, .f32⟩
  | .hbm, ⟨35, _⟩ => ⟨S2048x8, .f32⟩
  | .hbm, ⟨36, _⟩ => ⟨S2048x8, .f32⟩
  | .hbm, ⟨37, _⟩ => ⟨S2048x8, .f32⟩
  | .hbm, ⟨38, _⟩ => ⟨S_, .f32⟩
  | .hbm, ⟨39, _⟩ => ⟨S2048x48, .f32⟩
  | .hbm, ⟨40, _⟩ => ⟨S_, .f32⟩
  | .hbm, ⟨41, _⟩ => ⟨S2048x48, .f32⟩
  | .hbm, ⟨42, _⟩ => ⟨S_, .f32⟩
  | .hbm, ⟨43, _⟩ => ⟨S2048x8, .f32⟩
  | .hbm, ⟨44, _⟩ => ⟨S2048x64, .f32⟩
  | .hbm, ⟨45, _⟩ => ⟨S2048x64, .f32⟩
  | .hbm, ⟨46, _⟩ => ⟨S2048x8, .f32⟩
  | .hbm, ⟨47, _⟩ => ⟨S2048x64, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S1x128, .f32⟩
  | .hbm, ⟨52, _⟩ => ⟨S4x2048x1024, .bf16⟩
  | .hbm, ⟨53, _⟩ => ⟨S2x2048x5632, .bf16⟩
  | .hbm, ⟨54, _⟩ => ⟨S2x2048x5632, .bf16⟩
  | .hbm, ⟨55, _⟩ => ⟨S2x5632x2048, .bf16⟩
  | .hbm, ⟨56, _⟩ => ⟨S1x2048x10240, .bf16⟩
  | .hbm, ⟨57, _⟩ => ⟨S1x2048x2048, .bf16⟩
  | .hbm, ⟨58, _⟩ => ⟨S1x2048x2048, .bf16⟩
  | .local _ .vmem, ⟨0, _⟩ => ⟨S4x64, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x128x5632, .f32⟩
  | .local _ .vmem, ⟨12, _⟩ => ⟨S1x128x5632, .f32⟩
  | .local _ .vmem, ⟨13, _⟩ => ⟨S1x128x5632, .f32⟩
  | .local _ .vmem, ⟨14, _⟩ => ⟨S1x128x5632, .f32⟩
  | .local _ .vmem, ⟨15, _⟩ => ⟨S1x352x2048, .f32⟩
  | .local _ .vmem, ⟨16, _⟩ => ⟨S1x352x2048, .f32⟩
  | .local _ .vmem, ⟨17, _⟩ => ⟨S1x64x10240, .f32⟩
  | .local _ .vmem, ⟨18, _⟩ => ⟨S1x64x10240, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .f32⟩
  | .local _ .vmem, ⟨23, _⟩ => ⟨S1x2048x128, .bf16⟩
  | .local _ .vmem, ⟨24, _⟩ => ⟨S1x2048x128, .bf16⟩
  | .local _ .vmem, ⟨25, _⟩ => ⟨S1x128x5632, .bf16⟩
  | .local _ .vmem, ⟨26, _⟩ => ⟨S1x128x5632, .bf16⟩
  | .local _ .vmem, ⟨27, _⟩ => ⟨S1x128x5632, .bf16⟩
  | .local _ .vmem, ⟨28, _⟩ => ⟨S1x128x5632, .bf16⟩
  | .local _ .vmem, ⟨29, _⟩ => ⟨S1x352x2048, .bf16⟩
  | .local _ .vmem, ⟨30, _⟩ => ⟨S1x352x2048, .bf16⟩
  | .local _ .vmem, ⟨31, _⟩ => ⟨S1x64x10240, .bf16⟩
  | .local _ .vmem, ⟨32, _⟩ => ⟨S1x64x10240, .bf16⟩
  | .local _ .vmem, ⟨33, _⟩ => ⟨S1x64x2048, .bf16⟩
  | .local _ .vmem, ⟨34, _⟩ => ⟨S1x64x2048, .bf16⟩
  | .local _ .vmem, ⟨35, _⟩ => ⟨S1x64x2048, .bf16⟩
  | .local _ .vmem, ⟨36, _⟩ => ⟨S1x64x2048, .bf16⟩
  | .local _ .vmem, ⟨37, _⟩ => ⟨S2048x128, .bf16⟩
  | .local _ .vmem, ⟨38, _⟩ => ⟨S2048x256, .bf16⟩
  | _, _ => ⟨S4x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v35_2 : Ref sig .tc := ⟨.hbm, 54, rfl⟩
abbrev main_v35_3 : Ref sig .tc := ⟨.hbm, 55, rfl⟩
abbrev main_v35_4 : Ref sig .tc := ⟨.hbm, 56, rfl⟩
abbrev main_v35_5 : Ref sig .tc := ⟨.hbm, 57, rfl⟩
abbrev main_v35_6 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_17 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c16_i32_5 : BitVec 32 := 16#32
  let c0_i32_6 : BitVec 32 := 0#32
  let v21 : BitVec 1 := Scalar.cmpi .eq c16_i32_5 c0_i32_6
  let c1_i32_7 : BitVec 32 := 1#32
  let v22 : BitVec 32 := Scalar.select v21 c1_i32_7 c16_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_18 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_19 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

def cc0_transform_20 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c32_i32 c0_i32_1
  let v9 : BitVec 32 := Scalar.extui v8
  let c0_i32_2 : BitVec 32 := 0#32
  let v10 : BitVec 1 := Scalar.cmpi .slt c32_i32 c0_i32_2
  let v11 : BitVec 32 := Scalar.extui v10
  let v12 : BitVec 32 := Scalar.subi v9 v11
  let v13 : BitVec 1 := Scalar.cmpi .ne v7 v12
  let v14 : BitVec 32 := Scalar.remsi v1 c32_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.muli arg0 c8_i32_4
  let v20 : BitVec 32 := Scalar.addi v19 arg1
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, v30.toNat, c0_i32_11.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x10240 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x5632 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x352x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x64x10240 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x64x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x64x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== KernelIdeal.lean ====
variable {F : FTy → Type} [FloatOps F] [Named F]
def κ : String → Option EReal := fun
  | "scale" => some (((8 * (Real.log 2))⁻¹ : ℝ) : EReal)
  | _ => none
-- ==== ReferenceIdeal.lean ====
abbrev S4x2048x5120 : Shape := ⟨3, ![4, 2048, 5120]⟩
abbrev S1x64 : Shape := ⟨2, ![1, 64]⟩
abbrev S1x128 : Shape := ⟨2, ![1, 128]⟩
abbrev S2x2048x5632 : Shape := ⟨3, ![2, 2048, 5632]⟩
abbrev S2x5632x2048 : Shape := ⟨3, ![2, 5632, 2048]⟩
abbrev S1x2048x10240 : Shape := ⟨3, ![1, 2048, 10240]⟩
abbrev S1x2048x2048 : Shape := ⟨3, ![1, 2048, 2048]⟩
abbrev S2048 : Shape := ⟨1, ![2048]⟩
abbrev S4x2048x1024 : Shape := ⟨3, ![4, 2048, 1024]⟩
abbrev S4x2048x8x2x64 : Shape := ⟨5, ![4, 2048, 8, 2, 64]⟩
abbrev S4x2048x8x128 : Shape := ⟨4, ![4, 2048, 8, 128]⟩
abbrev S64 : Shape := ⟨1, ![64]⟩
abbrev S_ : Shape := ⟨0, ![]⟩
abbrev S4x8x2x2048x64 : Shape := ⟨5, ![4, 8, 2, 2048, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S4x8x2x2048x8 : Shape := ⟨5, ![4, 8, 2, 2048, 8]⟩
abbrev S4x8x2x2048x48 : Shape := ⟨5, ![4, 8, 2, 2048, 48]⟩
abbrev S1x1x1x2048x8 : Shape := ⟨5, ![1, 1, 1, 2048, 8]⟩
abbrev S4x8x2048x128 : Shape := ⟨4, ![4, 8, 2048, 128]⟩
abbrev S4x8x2x2048x2048 : Shape := ⟨5, ![4, 8, 2, 2048, 2048]⟩
abbrev S4x8x2x2048 : Shape := ⟨4, ![4, 8, 2, 2048]⟩
abbrev S4x8x2x2048x1 : Shape := ⟨5, ![4, 8, 2, 2048, 1]⟩
abbrev S4x8x1x2048x2048 : Shape := ⟨5, ![4, 8, 1, 2048, 2048]⟩
abbrev S4x8x2048x2048 : Shape := ⟨4, ![4, 8, 2048, 2048]⟩
abbrev S128 : Shape := ⟨1, ![128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩

abbrev nBuf : Space → Nat
  | .hbm => 158
  | .vmem => 0
  | .smem => 0
  | _ => 0

abbrev hbmTy0_0 (i : Nat) : BufTy := match i % 128 with
  | 0 => ⟨S4x2048x5120, .f32⟩
  | 1 => ⟨S1x64, .f32⟩
  | 2 => ⟨S1x64, .f32⟩
  | 3 => ⟨S1x64, .f32⟩
  | 4 => ⟨S1x64, .f32⟩
  | 5 => ⟨S1x128, .f32⟩
  | 6 => ⟨S2x2048x5632, .f32⟩
  | 7 => ⟨S2x2048x5632, .f32⟩
  | 8 => ⟨S2x5632x2048, .f32⟩
  | 9 => ⟨S1x2048x10240, .f32⟩
  | 10 => ⟨S1x2048x2048, .f32⟩
  | 11 => ⟨S1x2048x2048, .f32⟩
  | 12 => ⟨S2048, .f32⟩
  | 13 => ⟨S4x2048x1024, .f32⟩
  | 14 => ⟨S4x2048x8x2x64, .f32⟩
  | 15 => ⟨S4x2048x1024, .f32⟩
  | 16 => ⟨S4x2048x8x2x64, .f32⟩
  | 17 => ⟨S4x2048x1024, .f32⟩
  | 18 => ⟨S4x2048x8x128, .f32⟩
  | 19 => ⟨S64, .f32⟩
  | 20 => ⟨S64, .f32⟩
  | 21 => ⟨S64, .f32⟩
  | 22 => ⟨S_, .f32⟩
  | 23 => ⟨S_, .f32⟩
  | 24 => ⟨S_, .f32⟩
  | 25 => ⟨S64, .f32⟩
  | 26 => ⟨S64, .f32⟩
  | 27 => ⟨S64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S4x8x2x2048x64, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S2048x1, .f32⟩
  | 44 => ⟨S1x8, .f32⟩
  | 45 => ⟨S2048x8, .f32⟩
  | 46 => ⟨S2048x8, .f32⟩
  | 47 => ⟨S2048x8, .f32⟩
  | 48 => ⟨S2048x8, .f32⟩
  | 49 => ⟨S2048x8, .f32⟩
  | 50 => ⟨S4x8x2x2048x8, .f32⟩
  | 51 => ⟨S4x8x2x2048x8, .f32⟩
  | 52 => ⟨S4x8x2x2048x48, .f32⟩
  | 53 => ⟨S1x1x1x2048x8, .f32⟩
  | 54 => ⟨S4x8x2x2048x8, .f32⟩
  | 55 => ⟨S4x8x2x2048x8, .f32⟩
  | 56 => ⟨S1x1x1x2048x8, .f32⟩
  | 57 => ⟨S4x8x2x2048x8, .f32⟩
  | 58 => ⟨S4x8x2x2048x8, .f32⟩
  | 59 => ⟨S4x8x2x2048x8, .f32⟩
  | 60 => ⟨S1x1x1x2048x8, .f32⟩
  | 61 => ⟨S4x8x2x2048x8, .f32⟩
  | 62 => ⟨S4x8x2x2048x8, .f32⟩
  | 63 => ⟨S1x1x1x2048x8, .f32⟩
  | 64 => ⟨S4x8x2x2048x8, .f32⟩
  | 65 => ⟨S4x8x2x2048x8, .f32⟩
  | 66 => ⟨S4x8x2x2048x8, .f32⟩
  | 67 => ⟨S4x8x2x2048x64, .f32⟩
  | 68 => ⟨S4x8x2x2048x64, .f32⟩
  | 69 => ⟨S8, .f32⟩
  | 70 => ⟨S8, .f32⟩
  | 71 => ⟨S_, .f32⟩
  | 72 => ⟨S8, .f32⟩
  | 73 => ⟨S8, .f32⟩
  | 74 => ⟨S_, .f32⟩
  | 75 => ⟨S8, .f32⟩
  | 76 => ⟨S8, .f32⟩
  | 77 => ⟨S2048x1, .f32⟩
  | 78 => ⟨S1x8, .f32⟩
  | 79 => ⟨S2048x8, .f32⟩
  | 80 => ⟨S2048x8, .f32⟩
  | 81 => ⟨S2048x8, .f32⟩
  | 82 => ⟨S2048x8, .f32⟩
  | 83 => ⟨S2048x8, .f32⟩
  | 84 => ⟨S4x8x2x2048x8, .f32⟩
  | 85 => ⟨S4x8x2x2048x8, .f32⟩
  | 86 => ⟨S4x8x2x2048x48, .f32⟩
  | 87 => ⟨S1x1x1x2048x8, .f32⟩
  | 88 => ⟨S4x8x2x2048x8, .f32⟩
  | 89 => ⟨S4x8x2x2048x8, .f32⟩
  | 90 => ⟨S1x1x1x2048x8, .f32⟩
  | 91 => ⟨S4x8x2x2048x8, .f32⟩
  | 92 => ⟨S4x8x2x2048x8, .f32⟩
  | 93 => ⟨S4x8x2x2048x8, .f32⟩
  | 94 => ⟨S1x1x1x2048x8, .f32⟩
  | 95 => ⟨S4x8x2x2048x8, .f32⟩
  | 96 => ⟨S4x8x2x2048x8, .f32⟩
  | 97 => ⟨S1x1x1x2048x8, .f32⟩
  | 98 => ⟨S4x8x2x2048x8, .f32⟩
  | 99 => ⟨S4x8x2x2048x8, .f32⟩
  | 100 => ⟨S4x8x2x2048x8, .f32⟩
  | 101 => ⟨S4x8x2x2048x64, .f32⟩
  | 102 => ⟨S4x8x2048x128, .f32⟩
  | 103 => ⟨S4x8x2x2048x2048, .f32⟩
  | 104 => ⟨S_, .f32⟩
  | 105 => ⟨S4x8x2x2048x2048, .f32⟩
  | 106 => ⟨S4x8x2x2048x2048, .f32⟩
  | 107 => ⟨S_, .f32⟩
  | 108 => ⟨S4x8x2x2048, .f32⟩
  | 109 => ⟨S_, .f32⟩
  | 110 => ⟨S4x8x2x2048, .f32⟩
  | 111 => ⟨S4x8x2x2048, .f32⟩
  | 112 => ⟨S4x8x2x2048x1, .f32⟩
  | 113 => ⟨S4x8x2x2048x2048, .f32⟩
  | 114 => ⟨S4x8x2x2048x2048, .f32⟩
  | 115 => ⟨S4x8x2x2048x2048, .f32⟩
  | 116 => ⟨S_, .f32⟩
  | 117 => ⟨S4x8x2x2048, .f32⟩
  | 118 => ⟨S4x8x2x2048x1, .f32⟩
  | 119 => ⟨S4x8x2x2048x2048, .f32⟩
  | 120 => ⟨S4x8x2x2048x2048, .f32⟩
  | 121 => ⟨S4x8x1x2048x2048, .f32⟩
  | 122 => ⟨S4x8x2048x2048, .f32⟩
  | 123 => ⟨S4x8x1x2048x2048, .f32⟩
  | 124 => ⟨S4x8x2048x2048, .f32⟩
  | 125 => ⟨S4x8x2048x2048, .f32⟩
  | 126 => ⟨S4x8x2048x2048, .f32⟩
  | 127 => ⟨S4x8x2048x2048, .f32⟩
  | _ => ⟨S4x2048x5120, .f32⟩

abbrev hbmTy0_1 (i : Nat) : BufTy := match i % 128 with
  | 0 => ⟨S4x8x2048x128, .f32⟩
  | 1 => ⟨S4x2048x8x128, .f32⟩
  | 2 => ⟨S128, .f32⟩
  | 3 => ⟨S4x2048x8x128, .f32⟩
  | 4 => ⟨S_, .f32⟩
  | 5 => ⟨S4x2048x8, .f32⟩
  | 6 => ⟨S4x2048x8x1, .f32⟩
  | 7 => ⟨S_, .f32⟩
  | 8 => ⟨S4x2048x8x1, .f32⟩
  | 9 => ⟨S4x2048x8x1, .f32⟩
  | 10 => ⟨S_, .f32⟩
  | 11 => ⟨S4x2048x8x1, .f32⟩
  | 12 => ⟨S4x2048x8x1, .f32⟩
  | 13 => ⟨S4x2048x8x1, .f32⟩
  | 14 => ⟨S4x2048x8x128, .f32⟩
  | 15 => ⟨S4x2048x8x128, .f32⟩
  | 16 => ⟨S1x1x1x128, .f32⟩
  | 17 => ⟨S4x2048x8x128, .f32⟩
  | 18 => ⟨S4x2048x8x128, .f32⟩
  | 19 => ⟨S_, .f32⟩
  | 20 => ⟨S4x2048x8x128, .f32⟩
  | 21 => ⟨S4x2048x8x128, .f32⟩
  | 22 => ⟨S4x2048x1024, .f32⟩
  | 23 => ⟨S4x2048x1024, .bf16⟩
  | 24 => ⟨S2x2048x5632, .bf16⟩
  | 25 => ⟨S2x2048x5632, .bf16⟩
  | 26 => ⟨S2x5632x2048, .bf16⟩
  | 27 => ⟨S1x2048x10240, .bf16⟩
  | 28 => ⟨S1x2048x2048, .bf16⟩
  | 29 => ⟨S1x2048x2048, .bf16⟩
  | _ => ⟨S4x2048x5120, .f32⟩

abbrev hbmTy (i : Nat) : BufTy := match i / 128 with
  | 0 => hbmTy0_0 i
  | 1 => hbmTy0_1 i
  | _ => ⟨S4x2048x5120, .f32⟩

abbrev bufTy : (tb : Table) → Fin (tcTables nBuf tb) → BufTy
  | .hbm, ⟨i, _⟩ => hbmTy i
  | _, _ => ⟨S4x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_4 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_6 : Ref sig .tc := ⟨.hbm, 104, rfl⟩
abbrev main_v85 : Ref sig .tc := ⟨.hbm, 105, rfl⟩
abbrev main_v86 : Ref sig .tc := ⟨.hbm, 106, rfl⟩
abbrev main_cst_7 : Ref sig .tc := ⟨.hbm, 107, rfl⟩
abbrev main_v87 : Ref sig .tc := ⟨.hbm, 108, rfl⟩
abbrev main_cst_8 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_9 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_10 : Ref sig .tc := ⟨.hbm, 132, rfl⟩
abbrev main_v109 : Ref sig .tc := ⟨.hbm, 133, rfl⟩
abbrev main_v110 : Ref sig .tc := ⟨.hbm, 134, rfl⟩
abbrev main_cst_11 : Ref sig .tc := ⟨.hbm, 135, rfl⟩
abbrev main_v111 : Ref sig .tc := ⟨.hbm, 136, rfl⟩
abbrev main_v112 : Ref sig .tc := ⟨.hbm, 137, rfl⟩
abbrev main_cst_12 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_13 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩

abbrev nD : Nat := 1
abbrev τ : Topo := Topo.v7x

variable {F : FTy → Type} [FloatOps F]
-- ==== Ffn.lean ====
abbrev S4x2048x2048 : Shape := ⟨3, ![4, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 15
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S2x2048x5632, .bf16⟩
  | .hbm, ⟨10, _⟩ => ⟨S2x2048x5632, .bf16⟩
  | .hbm, ⟨11, _⟩ => ⟨S2x5632x2048, .bf16⟩
  | .hbm, ⟨12, _⟩ => ⟨S1x2048, .f32⟩
  | .hbm, ⟨13, _⟩ => ⟨S1x2048, .f32⟩
  | .hbm, ⟨14, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x2048x2048 : Shape := ⟨3, ![4, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S1x2048x5632, .f32⟩
  | .hbm, ⟨25, _⟩ => ⟨S2048x5632, .f32⟩
  | .hbm, ⟨26, _⟩ => ⟨S1x2048x5632, .f32⟩
  | .hbm, ⟨27, _⟩ => ⟨S2048x5632, .f32⟩
  | .hbm, ⟨28, _⟩ => ⟨S1x5632x2048, .f32⟩
  | .hbm, ⟨29, _⟩ => ⟨S5632x2048, .f32⟩
  | .hbm, ⟨30, _⟩ => ⟨S4x2048x5632, .f32⟩
  | .hbm, ⟨31, _⟩ => ⟨S4x2048x5632, .f32⟩
  | .hbm, ⟨32, _⟩ => ⟨S4x2048x5632, .f32⟩
  | .hbm, ⟨33, _⟩ => ⟨S_, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x5632, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x2048, .f32⟩
  | .hbm, ⟨56, _⟩ => ⟨S4x2048x2048, .f32⟩
  | .hbm, ⟨57, _⟩ => ⟨S1x1x2048, .f32⟩
  | .hbm, ⟨58, _⟩ => ⟨S4x2048x2048, .f32⟩
  | .hbm, ⟨59, _⟩ => ⟨S4x2048x2048, .f32⟩
  | .hbm, ⟨60, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== FfnFirst.lean ====
abbrev S4x2048x2048 : Shape := ⟨3, ![4, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S8192x2048 : Shape := ⟨2, ![8192, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S2x2048x5632, .bf16⟩
  | .hbm, ⟨9, _⟩ => ⟨S2x2048x5632, .bf16⟩
  | .hbm, ⟨10, _⟩ => ⟨S2x5632x2048, .bf16⟩
  | .hbm, ⟨11, _⟩ => ⟨S1x2048, .f32⟩
  | .hbm, ⟨12, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnFirstRefIdeal.lean ====
abbrev S4x2048x2048 : Shape := ⟨3, ![4, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4x2048x5632 : Shape := ⟨3, ![4, 2048, 5632]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S1x2048x5632, .f32⟩
  | .hbm, ⟨24, _⟩ => ⟨S2048x5632, .f32⟩
  | .hbm, ⟨25, _⟩ => ⟨S1x2048x5632, .f32⟩
  | .hbm, ⟨26, _⟩ => ⟨S2048x5632, .f32⟩
  | .hbm, ⟨27, _⟩ => ⟨S1x5632x2048, .f32⟩
  | .hbm, ⟨28, _⟩ => ⟨S5632x2048, .f32⟩
  | .hbm, ⟨29, _⟩ => ⟨S4x2048x5632, .f32⟩
  | .hbm, ⟨30, _⟩ => ⟨S4x2048x5632, .f32⟩
  | .hbm, ⟨31, _⟩ => ⟨S4x2048x5632, .f32⟩
  | .hbm, ⟨32, _⟩ => ⟨S_, .f32⟩
  | .hbm, ⟨33, _⟩ => ⟨S4x2048x5632, .f32⟩
  | .hbm, ⟨34, _⟩ => ⟨S4x2048x5632, .f32⟩
  | .hbm, ⟨35, _⟩ => ⟨S_, .f32⟩
  | .hbm, ⟨36, _⟩ => ⟨S4x2048x5632, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S4x2048x5632, .f32⟩
  | .hbm, ⟨41, _⟩ => ⟨S4x2048x2048, .f32⟩
  | .hbm, ⟨42, _⟩ => ⟨S4x2048x2048, .f32⟩
  | .hbm, ⟨43, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Gmlp.lean ====
abbrev S4x2048x5120 : Shape := ⟨3, ![4, 2048, 5120]⟩
abbrev S1x1024 : Shape := ⟨2, ![1, 1024]⟩
abbrev S1x8x128x128 : Shape := ⟨4, ![1, 8, 128, 128]⟩
abbrev S1x8x128 : Shape := ⟨3, ![1, 8, 128]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S4x2048x1024 : Shape := ⟨3, ![4, 2048, 1024]⟩
abbrev S1x1024x1024 : Shape := ⟨3, ![1, 1024, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 14
  | .vmem => 10
  | .smem => 0
  | _ => 0

abbrev bufTy : (tb : Table) → Fin (tcTables nBuf tb) → BufTy
  | .hbm, ⟨0, _⟩ => ⟨S4x2048x5120, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1x1024, .f32⟩
  | .hbm, ⟨10, _⟩ => ⟨S1x1024, .f32⟩
  | .hbm, ⟨11, _⟩ => ⟨S8x128x128, .bf16⟩
  | .hbm, ⟨12, _⟩ => ⟨S128x8, .f32⟩
  | .hbm, ⟨13, _⟩ => ⟨S4x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x8, .f32⟩
  | .local _ .vmem, ⟨8, _⟩ => ⟨S1x1024x1024, .bf16⟩
  | .local _ .vmem, ⟨9, _⟩ => ⟨S1x1024x1024, .bf16⟩
  | _, _ => ⟨S4x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GmlpRefIdeal.lean ====
abbrev S4x2048x5120 : Shape := ⟨3, ![4, 2048, 5120]⟩
abbrev S1x1024 : Shape := ⟨2, ![1, 1024]⟩
abbrev S1x8x128x128 : Shape := ⟨4, ![1, 8, 128, 128]⟩
abbrev S1x8x128 : Shape := ⟨3, ![1, 8, 128]⟩
abbrev S4x2048x1024 : Shape := ⟨3, ![4, 2048, 1024]⟩
abbrev S_ : Shape := ⟨0, ![]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S4x16x128x8x128 : Shape := ⟨5, ![4, 16, 128, 8, 128]⟩
abbrev S8x128x128 : Shape := ⟨3, ![8, 128, 128]⟩
abbrev S8x4x16x128x128 : Shape := ⟨5, ![8, 4, 16, 128, 128]⟩
abbrev S8x128 : Shape := ⟨2, ![8, 128]⟩
abbrev S128x8 : Shape := ⟨2, ![128, 8]⟩
abbrev S1x1x128x8x1 : Shape := ⟨5, ![1, 1, 128, 8, 1]⟩

abbrev nBuf : Space → Nat
  | .hbm => 82
  | .vmem => 0
  | .smem => 0
  | _ => 0

abbrev bufTy : (tb : Table) → Fin (tcTables nBuf tb) → BufTy
  | .hbm, ⟨0, _⟩ => ⟨S4x2048x5120, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S4x2048, .f32⟩
  | .hbm, ⟨54, _⟩ => ⟨S4x2048x1, .f32⟩
  | .hbm, ⟨55, _⟩ => ⟨S_, .f32⟩
  | .hbm, ⟨56, _⟩ => ⟨S4x2048x1, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S4x2048x1, .f32⟩
  | .hbm, ⟨62, _⟩ => ⟨S4x2048x1024, .f32⟩
  | .hbm, ⟨63, _⟩ => ⟨S4x2048x1024, .f32⟩
  | .hbm, ⟨64, _⟩ => ⟨S1x1x1024, .f32⟩
  | .hbm, ⟨65, _⟩ => ⟨S4x2048x1024, .f32⟩
  | .hbm, ⟨66, _⟩ => ⟨S4x2048x1024, .f32⟩
  | .hbm, ⟨67, _⟩ => ⟨S1x1x1024, .f32⟩
  | .hbm, ⟨68, _⟩ => ⟨S4x2048x1024, .f32⟩
  | .hbm, ⟨69, _⟩ => ⟨S4x2048x1024, .f32⟩
  | .hbm, ⟨70, _⟩ => ⟨S4x16x128x8x128, .f32⟩
  | .hbm, ⟨71, _⟩ => ⟨S8x128x128, .f32⟩
  | .hbm, ⟨72, _⟩ => ⟨S8x4x16x128x128, .f32⟩
  | .hbm, ⟨73, _⟩ => ⟨S4x16x128x8x128, .f32⟩
  | .hbm, ⟨74, _⟩ => ⟨S8x128, .f32⟩
  | .hbm, ⟨75, _⟩ => ⟨S128x8, .f32⟩
  | .hbm, ⟨76, _⟩ => ⟨S1x1x128x8x1, .f32⟩
  | .hbm, ⟨77, _⟩ => ⟨S4x16x128x8x128, .f32⟩
  | .hbm, ⟨78, _⟩ => ⟨S4x16x128x8x128, .f32⟩
  | .hbm, ⟨79, _⟩ => ⟨S4x2048x1024, .f32⟩
  | .hbm, ⟨80, _⟩ => ⟨S4x2048x1024, .f32⟩
  | .hbm, ⟨81, _⟩ => ⟨S4x2048x1024, .bf16⟩
  | _, _ => ⟨S4x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== ProjEven.lean ====
abbrev S4x2048x2048 : Shape := ⟨3, ![4, 2048, 2048]⟩
abbrev S2x2048 : Shape := ⟨2, ![2, 2048]⟩
abbrev S1x2048x5120 : Shape := ⟨3, ![1, 2048, 5120]⟩
abbrev S8192x2048 : Shape := ⟨2, ![8192, 2048]⟩
abbrev S1x2048 : Shape := ⟨2, ![1, 2048]⟩
abbrev S2048 : Shape := ⟨1, ![2048]⟩
abbrev S8192x5120 : Shape := ⟨2, ![8192, 5120]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048x5120, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S1x2048x5120, .bf16⟩
  | .hbm, ⟨7, _⟩ => ⟨S1x2048, .f32⟩
  | .hbm, ⟨8, _⟩ => ⟨S8192x5120, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjEvenRefIdeal.lean ====
abbrev S4x2048x2048 : Shape := ⟨3, ![4, 2048, 2048]⟩
abbrev S2x2048 : Shape := ⟨2, ![2, 2048]⟩
abbrev S1x2048x5120 : Shape := ⟨3, ![1, 2048, 5120]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x5120 : Shape := ⟨2, ![2048, 5120]⟩
abbrev S4x2048x5120 : Shape := ⟨3, ![4, 2048, 5120]⟩
abbrev S8192x5120 : Shape := ⟨2, ![8192, 5120]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048x5120, .f32⟩
  | .hbm, ⟨3, _⟩ => ⟨S1x2048, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x5120, .f32⟩
  | .hbm, ⟨22, _⟩ => ⟨S4x2048x5120, .f32⟩
  | .hbm, ⟨23, _⟩ => ⟨S8192x5120, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== ProjGate.lean ====
abbrev S4x2048x2048 : Shape := ⟨3, ![4, 2048, 2048]⟩
abbrev S2x2048 : Shape := ⟨2, ![2, 2048]⟩
abbrev S1x2048x10240 : Shape := ⟨3, ![1, 2048, 10240]⟩
abbrev S8192x2048 : Shape := ⟨2, ![8192, 2048]⟩
abbrev S1x2048 : Shape := ⟨2, ![1, 2048]⟩
abbrev S2048 : Shape := ⟨1, ![2048]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 10
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048x10240, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S1x2048x10240, .bf16⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjGateRefIdeal.lean ====
abbrev S4x2048x2048 : Shape := ⟨3, ![4, 2048, 2048]⟩
abbrev S2x2048 : Shape := ⟨2, ![2, 2048]⟩
abbrev S1x2048x10240 : Shape := ⟨3, ![1, 2048, 10240]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x10240 : Shape := ⟨2, ![2048, 10240]⟩
abbrev S2048x2048 : Shape := ⟨2, ![2048, 2048]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048, .f32⟩
  | .hbm, ⟨2, _⟩ => ⟨S1x2048x10240, .f32⟩
  | .hbm, ⟨3, _⟩ => ⟨S1x2048, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x10240, .f32⟩
  | .hbm, ⟨22, _⟩ => ⟨S2048x2048, .f32⟩
  | .hbm, ⟨23, _⟩ => ⟨S4x2048x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== OutEven.lean ====
abbrev S4x2048x1024 : Shape := ⟨3, ![4, 2048, 1024]⟩
abbrev S1x2048x2048 : Shape := ⟨3, ![1, 2048, 2048]⟩
abbrev S4x2048x2048 : Shape := ⟨3, ![4, 2048, 2048]⟩
abbrev S8192x1024 : Shape := ⟨2, ![8192, 1024]⟩
abbrev S8192x2048 : Shape := ⟨2, ![8192, 2048]⟩
abbrev S512x1024 : Shape := ⟨2, ![512, 1024]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S1x2048x2048, .f32⟩
  | .hbm, ⟨3, _⟩ => ⟨S4x2048x2048, .f32⟩
  | .hbm, ⟨4, _⟩ => ⟨S8192x1024, .bf16⟩
  | .hbm, ⟨5, _⟩ => ⟨S8192x1024, .bf16⟩
  | .hbm, ⟨6, _⟩ => ⟨S1x2048x2048, .bf16⟩
  | .hbm, ⟨7, _⟩ => ⟨S8192x2048, .f32⟩
  | .hbm, ⟨8, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutEvenRefIdeal.lean ====
abbrev S4x2048x1024 : Shape := ⟨3, ![4, 2048, 1024]⟩
abbrev S1x2048x2048 : Shape := ⟨3, ![1, 2048, 2048]⟩
abbrev S4x2048x2048 : Shape := ⟨3, ![4, 2048, 2048]⟩
abbrev S2048x2048 : Shape := ⟨2, ![2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S1x2048x2048, .f32⟩
  | .hbm, ⟨3, _⟩ => ⟨S4x2048x2048, .f32⟩
  | .hbm, ⟨4, _⟩ => ⟨S4x2048x2048, .bf16⟩
  | .hbm, ⟨5, _⟩ => ⟨S4x2048x2048, .f32⟩
  | .hbm, ⟨6, _⟩ => ⟨S2048x2048, .f32⟩
  | .hbm, ⟨7, _⟩ => ⟨S4x2048x2048, .f32⟩
  | .hbm, ⟨8, _⟩ => ⟨S4x2048x2048, .f32⟩
  | .hbm, ⟨9, _⟩ => ⟨S8192x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutOdd.lean ====
abbrev S4x2048x2048 : Shape := ⟨3, ![4, 2048, 2048]⟩
abbrev S1x2048 : Shape := ⟨2, ![1, 2048]⟩
abbrev S1x2048x2048 : Shape := ⟨3, ![1, 2048, 2048]⟩
abbrev S8192x2048 : Shape := ⟨2, ![8192, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S1x2048, .f32⟩
  | .hbm, ⟨3, _⟩ => ⟨S1x2048x2048, .f32⟩
  | .hbm, ⟨4, _⟩ => ⟨S4x2048x2048, .f32⟩
  | .hbm, ⟨5, _⟩ => ⟨S8192x2048, .f32⟩
  | .hbm, ⟨6, _⟩ => ⟨S8192x2048, .f32⟩
  | .hbm, ⟨7, _⟩ => ⟨S2048, .f32⟩
  | .hbm, ⟨8, _⟩ => ⟨S1x2048x2048, .bf16⟩
  | .hbm, ⟨9, _⟩ => ⟨S8192x2048, .f32⟩
  | .hbm, ⟨10, _⟩ => ⟨S1x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutOddRefIdeal.lean ====
abbrev S4x2048x2048 : Shape := ⟨3, ![4, 2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x2048 : Shape := ⟨2, ![2048, 2048]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S1x2048, .f32⟩
  | .hbm, ⟨3, _⟩ => ⟨S1x2048x2048, .f32⟩
  | .hbm, ⟨4, _⟩ => ⟨S4x2048x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S2048x2048, .f32⟩
  | .hbm, ⟨33, _⟩ => ⟨S4x2048x2048, .f32⟩
  | .hbm, ⟨34, _⟩ => ⟨S4x2048x2048, .f32⟩
  | .hbm, ⟨35, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Proof.FfnPay.lean ====
module

public import proofs.«01_k».proof.Proof.Gen.FfnIdeal.Skeleton
public import Idealize.ShloMosaic.Lib.Pointwise

@[expose] public section

set_option maxRecDepth 16384

noncomputable section

namespace Cert.FfnValue

open Idealize.ShloMosaic Cert.FfnIdeal Cert.FfnIdeal.Gen

/-- One entry of a row after its root mean square is divided out and the gain multiplied in. -/
def rms (row gain : Fin 2048 → EReal) (j : Fin 2048) : EReal :=
  row j * Ideal.rsqrt (Ideal.div (∑ k : Fin 2048, row k * row k) (Ideal.ofBits .f32 0x45000000#32) + Ideal.ofBits .f32 0x358637BD#32) * gain j

/-- The gate's activation: `a · 1 / (1 + exp (−a))`. -/
def act (a : EReal) : EReal :=
  a * Ideal.div 1 (1 + Ideal.exp (-a))

/-- The normalised block, read at an index. -/
theorem pay2_apply (x : Vec Ideal S1024x2048 .f32) (g : Vec Ideal S1x2048 .f32) (r : Fin 1024) (l : Fin 2048) :
    k0_pay2 x g (ix2 r l) = rms (fun k => x (ix2 r k)) (fun k => g (ix2 0 k)) l := by
  pointwise [k0_pay2, k0_pay1, rms]

/-- The final normalisation of a block, read at an index. -/
theorem pay4_apply (x : Vec Ideal S1024x2048 .f32) (g : Vec Ideal S1x2048 .f32) (r : Fin 1024) (l : Fin 2048) :
    k0_pay4 x g (ix2 r l) = rms (fun k => x (ix2 r k)) (fun k => g (ix2 0 k)) l := by
  pointwise [k0_pay4, rms]

/-- One tile of the hidden axis added to the running block, read at an index. -/
theorem pay3_apply (xn : Vec Ideal S1024x2048 .bf16) (wg wu : Vec Ideal S1x2048x512 .bf16) (o : Vec Ideal S1024x2048 .f32)
    (wd : Vec Ideal S1x512x2048 .bf16) (r : Fin 1024) (l : Fin 2048) :
    k0_pay3 xn wg wu o wd (ix2 r l) = o (ix2 r l) + ∑ f : Fin 512,
      act (∑ k : Fin 2048, xn (ix2 r k) * wg (ix3 0 k f)) * (∑ k : Fin 2048, xn (ix2 r k) * wu (ix3 0 k f)) * wd (ix3 0 f l) := by
  pointwise [k0_pay3, act]
  simp only [zero_sub]

end Cert.FfnValue

end
-- ==== Proof.FfnFold.lean ====
module

public import proofs.«01_k».proof.Proof.FfnPay
public import proofs.«01_k».proof.Proof.Gen.FfnIdeal.Value
public import Idealize.ShloMosaic.Lib.Pipeline.ValueKit
public import Idealize.ShloMosaic.Lib.Pipeline.ReadBack

@[expose] public section

set_option maxRecDepth 16384

noncomputable section

namespace Cert.FfnValue

open Idealize.ShloMosaic Idealize.ShloMosaic.TcCoe Cert.FfnIdeal Cert.FfnIdeal.Gen Cert.FfnIdeal.Value

variable (m : (ℓ : Loc nD τ sig) → Buf (Elt Ideal) ℓ)

/-- At the first point of a run of eleven: the block is its first tile added to the input rows, the scratch the
    normalised rows. -/
theorem outs_first (c : Dev nD) (t : Fin cfg0.N) (h0 : t.val % 11 = 0) :
    outsAt0 m c t.val t.isLt =
      (k0_pay3 (k0_pay2 (iblk m c 0 t) (iblk m c 1 t)) (iblk m c 2 t) (iblk m c 3 t) (k0_pay1 (iblk m c 0 t)) (iblk m c 4 t),
        k0_pay2 (iblk m c 0 t) (iblk m c 1 t)) := by
  rw [outsAt0_A m c t h0 (by omega)]
  frame_out

/-- At a middle point: one more tile is added, the scratch kept. -/
theorem outs_mid (c : Dev nD) (t : Fin cfg0.N) (h0 : ¬t.val % 11 = 0) (h1 : ¬t.val % 11 = 10) (h : t.val - 1 < cfg0.N) :
    outsAt0 m c t.val t.isLt =
      (k0_pay3 (outsAt0 m c (t.val - 1) h).2 (iblk m c 2 t) (iblk m c 3 t) (outsAt0 m c (t.val - 1) h).1 (iblk m c 4 t),
        (outsAt0 m c (t.val - 1) h).2) := by
  rw [outsAt0_B m c t h0 h1]
  frame_out
  simp only [read_unread_whole]
  rfl

/-- At the last point: the last tile is added and the sum normalised. -/
theorem outs_last (c : Dev nD) (t : Fin cfg0.N) (h0 : ¬t.val % 11 = 0) (h1 : t.val % 11 = 10) (h : t.val - 1 < cfg0.N) :
    outsAt0 m c t.val t.isLt =
      (k0_pay4 (k0_pay3 (outsAt0 m c (t.val - 1) h).2 (iblk m c 2 t) (iblk m c 3 t) (outsAt0 m c (t.val - 1) h).1 (iblk m c 4 t)) (iblk m c 5 t),
        (outsAt0 m c (t.val - 1) h).2) := by
  rw [outsAt0_C m c t h0 h1]
  frame_out
  simp only [read_unread_whole]
  rfl

end Cert.FfnValue

end
-- ==== Proof.FfnBlk.lean ====
module

public import proofs.«01_k».proof.Proof.Gen.FfnIdeal.Frame
public import Idealize.ShloMosaic.Lib.Pipeline.ValueKit
public import Idealize.ShloMosaic.Lib.Pointwise
public import Idealize.ShloMosaic.Lib.Claim

@[expose] public section

set_option maxRecDepth 16384

noncomputable section

namespace Cert.FfnValue

open Idealize.ShloMosaic Idealize.ShloMosaic.TcCoe Cert.FfnIdeal Cert.FfnIdeal.Gen

variable (m : (ℓ : Loc nD τ sig) → Buf (Elt Ideal) ℓ)

/-- The block each window reads or writes at a grid point. -/
theorem idx : ∀ t : Fin cfg0.N, win0_0.index t = ![t.val / 11, 0] ∧ win0_1.index t = ![0, 0]
    ∧ win0_2.index t = ![1, 0, t.val % 11] ∧ win0_3.index t = ![1, 0, t.val % 11]
    ∧ win0_4.index t = ![1, t.val % 11, 0] ∧ win0_5.index t = ![0, 0] :=
  (by decide +kernel : ∀ t : Fin grid0.N, _)

/-- The block of input rows at a point, read in the argument. -/
theorem blk0 (c : Dev nD) (t : Fin cfg0.N) (r : Fin 1024) (k : Fin 2048) (b : Fin 4) (s : Fin 2048)
    (h : 2048 * b.val + s.val = 1024 * (t.val / 11) + r.val) :
    iblk m c 0 t (ix2 r k) = m ((c : Thread nD τ).loc main_arg0) (ix3 b s k) := by
  have hb := b.isLt
  have hs := s.isLt
  have e : iblk m c 0 t (ix2 r k) = V m c main_v0 (ix2 ⟨1024 * (t.val / 11) + r.val, by omega⟩ k) := by blk_ext [iblk, idx t]
  rw [e]
  entry_read
  pointwise
  blk_ext

/-- The gain of the first normalisation. -/
theorem blk1 (c : Dev nD) (t : Fin cfg0.N) (k : Fin 2048) :
    iblk m c 1 t (ix2 0 k) = m ((c : Thread nD τ).loc main_arg1) (ix2 1 k) := by
  have e : iblk m c 1 t (ix2 0 k) = V m c main_v6 (ix2 0 k) := by blk_ext [iblk, idx t]
  rw [e]
  entry_read
  pointwise
  blk_ext

/-- A tile of the gate weights. -/
theorem blk2 (c : Dev nD) (t : Fin cfg0.N) (k : Fin 2048) (f : Fin 512) (g : Fin 5632) (h : g.val = 512 * (t.val % 11) + f.val) :
    iblk m c 2 t (ix3 0 k f) = m ((c : Thread nD τ).loc main_arg2) (ix3 1 k g) := by
  blk_ext [iblk, V, idx t]

/-- A tile of the up weights. -/
theorem blk3 (c : Dev nD) (t : Fin cfg0.N) (k : Fin 2048) (f : Fin 512) (g : Fin 5632) (h : g.val = 512 * (t.val % 11) + f.val) :
    iblk m c 3 t (ix3 0 k f) = m ((c : Thread nD τ).loc main_arg3) (ix3 1 k g) := by
  blk_ext [iblk, V, idx t]

/-- A tile of the down weights. -/
theorem blk4 (c : Dev nD) (t : Fin cfg0.N) (f : Fin 512) (l : Fin 2048) (g : Fin 5632) (h : g.val = 512 * (t.val % 11) + f.val) :
    iblk m c 4 t (ix3 0 f l) = m ((c : Thread nD τ).loc main_arg4) (ix3 1 g l) := by
  blk_ext [iblk, V, idx t]

/-- The gain of the final normalisation. -/
theorem blk5 (c : Dev nD) (t : Fin cfg0.N) (k : Fin 2048) :
    iblk m c 5 t (ix2 0 k) = m ((c : Thread nD τ).loc main_arg5) (ix1 k) := by
  have e : iblk m c 5 t (ix2 0 k) = V m c main_v7 (ix2 0 k) := by blk_ext [iblk, idx t]
  rw [e]
  entry_read
  pointwise

end Cert.FfnValue

end
-- ==== Proof.FfnKernel.lean ====
module

public import proofs.«01_k».proof.Proof.FfnFold
public import proofs.«01_k».proof.Proof.FfnBlk

@[expose] public section

set_option maxRecDepth 16384

noncomputable section

namespace Cert.FfnValue

open Idealize.ShloMosaic Idealize.ShloMosaic.TcCoe Cert.FfnIdeal Cert.FfnIdeal.Gen Cert.FfnIdeal.Value

/-- The hidden unit `g` of a row: the activated gate times the up projection. -/
def hid (x gain : Fin 2048 → EReal) (wg wu : Fin 2048 → Fin 5632 → EReal) (g : Fin 5632) : EReal :=
  act (∑ k : Fin 2048, rms x gain k * wg k g) * (∑ k : Fin 2048, rms x gain k * wu k g)

/-- One row of the layer before the final normalisation: the row plus the hidden units projected back. -/
def ffnRow (x gain : Fin 2048 → EReal) (wg wu : Fin 2048 → Fin 5632 → EReal) (wd : Fin 5632 → Fin 2048 → EReal)
    (l : Fin 2048) : EReal :=
  x l + ∑ g : Fin 5632, hid x gain wg wu g * wd g l

/-- A family on `Fin 5632` continued by zero. -/
def nth (F : Fin 5632 → EReal) (n : ℕ) : EReal := if h : n < 5632 then F ⟨n, h⟩ else 0

theorem nth_eq (F : Fin 5632 → EReal) (g : Fin 5632) : nth F g.val = F g := dif_pos g.isLt

/-- Eleven tiles of 512 are the whole hidden axis. -/
theorem sum_tiles (F : Fin 5632 → EReal) :
    ∑ p ∈ Finset.range 11, ∑ f : Fin 512, nth F (p * 512 + f.val) = ∑ g : Fin 5632, F g := by
  rw [← Fin.sum_univ_eq_sum_range (fun p => ∑ f : Fin 512, nth F (p * 512 + f.val)) 11]
  refine (Fin.sum_univ_univ_mul_add 11 512 (nth F)).trans ?_
  exact Finset.sum_congr rfl fun g _ => nth_eq F g

variable (m : (ℓ : Loc nD τ sig) → Buf (Elt Ideal) ℓ) (c : Dev nD)

/-- The input row of batch `b`, position `s`. -/
abbrev xRow (b : Fin 4) (s : Fin 2048) : Fin 2048 → EReal := fun k => m ((c : Thread nD τ).loc main_arg0) (ix3 b s k)
/-- The first gain. -/
abbrev gain : Fin 2048 → EReal := fun k => m ((c : Thread nD τ).loc main_arg1) (ix2 1 k)
/-- The gate weights. -/
abbrev wgate : Fin 2048 → Fin 5632 → EReal := fun k g => m ((c : Thread nD τ).loc main_arg2) (ix3 1 k g)
/-- The up weights. -/
abbrev wup : Fin 2048 → Fin 5632 → EReal := fun k g => m ((c : Thread nD τ).loc main_arg3) (ix3 1 k g)
/-- The down weights. -/
abbrev wdown : Fin 5632 → Fin 2048 → EReal := fun g l => m ((c : Thread nD τ).loc main_arg4) (ix3 1 g l)
/-- The final gain. -/
abbrev fgain : Fin 2048 → EReal := fun k => m ((c : Thread nD τ).loc main_arg5) (ix1 k)

/-- The contribution of hidden unit `g` to entry `l` of a row. -/
abbrev term (b : Fin 4) (s l : Fin 2048) (g : Fin 5632) : EReal :=
  hid (xRow m c b s) (gain m c) (wgate m c) (wup m c) g * wdown m c g l

/-- A point's tile, added to a block: the tile's 512 hidden units. -/
theorem tile_apply (t : Fin cfg0.N) (xn : Vec Ideal S1024x2048 .bf16) (o : Vec Ideal S1024x2048 .f32) (r : Fin 1024) (l : Fin 2048)
    (b : Fin 4) (s : Fin 2048) (hx : ∀ k : Fin 2048, xn (ix2 r k) = rms (xRow m c b s) (gain m c) k) :
    k0_pay3 xn (iblk m c 2 t) (iblk m c 3 t) o (iblk m c 4 t) (ix2 r l)
      = o (ix2 r l) + ∑ f : Fin 512, nth (term m c b s l) (t.val % 11 * 512 + f.val) := by
  rw [pay3_apply]
  congr 1
  refine Finset.sum_congr rfl fun f _ => ?_
  have hg : t.val % 11 * 512 + f.val < 5632 := by have := f.isLt; omega
  have e : (⟨t.val % 11 * 512 + f.val, hg⟩ : Fin 5632).val = 512 * (t.val % 11) + f.val := by simp only []; omega
  rw [show nth (term m c b s l) (t.val % 11 * 512 + f.val) = term m c b s l ⟨_, hg⟩ from dif_pos hg]
  simp only [hx, blk2 m c t _ f _ e, blk3 m c t _ f _ e, blk4 m c t f _ _ e]
  rfl

/-- The row of the point's block that stands at batch `b`, position `s`. -/
def At (n : ℕ) (r : Fin 1024) (b : Fin 4) (s : Fin 2048) : Prop := 2048 * b.val + s.val = 1024 * (n / 11) + r.val

/-- What the carried buffers hold after a point that is not the last of its run: the normalised rows, and the rows plus
    the tiles so far. -/
theorem fold_apply : ∀ (n : ℕ) (h : n < cfg0.N), ∀ (r : Fin 1024) (b : Fin 4) (s : Fin 2048), At n r b s →
    (∀ k : Fin 2048, (outsAt0 m c n h).2 (ix2 r k) = rms (xRow m c b s) (gain m c) k)
    ∧ (n % 11 ≠ 10 → ∀ l : Fin 2048, (outsAt0 m c n h).1 (ix2 r l)
        = xRow m c b s l + ∑ p ∈ Finset.range (n % 11 + 1), ∑ f : Fin 512, nth (term m c b s l) (p * 512 + f.val)) := by
  intro n
  induction n using Nat.strong_induction_on with
  | _ n ih =>
    intro h r b s hat
    by_cases h0 : n % 11 = 0
    · have hx : ∀ k : Fin 2048, k0_pay2 (iblk m c 0 ⟨n, h⟩) (iblk m c 1 ⟨n, h⟩) (ix2 r k) = rms (xRow m c b s) (gain m c) k := fun k => by
        rw [pay2_apply]
        simp only [blk0 m c ⟨n, h⟩ r _ b s hat, blk1]
      rw [show outsAt0 m c n h = _ from outs_first m c ⟨n, h⟩ h0]
      refine ⟨hx, fun _ l => ?_⟩
      dsimp only
      rw [tile_apply m c ⟨n, h⟩ _ _ r l b s hx, show k0_pay1 (iblk m c 0 ⟨n, h⟩) (ix2 r l) = xRow m c b s l from by
        unfold k0_pay1; simp only [shapeCast_self]; exact blk0 m c ⟨n, h⟩ r l b s hat]
      simp only [h0, zero_add, Finset.sum_range_one, zero_mul]
    · have hp : n - 1 < cfg0.N := Nat.lt_of_le_of_lt (Nat.sub_le _ _) h
      have ih' := ih (n - 1) (by omega) hp r b s (by unfold At at hat ⊢; omega)
      by_cases h1 : n % 11 = 10
      · rw [show outsAt0 m c n h = _ from outs_last m c ⟨n, h⟩ h0 h1 hp]
        exact ⟨ih'.1, fun h => absurd h1 h⟩
      · rw [show outsAt0 m c n h = _ from outs_mid m c ⟨n, h⟩ h0 h1 hp]
        refine ⟨ih'.1, fun _ l => ?_⟩
        dsimp only
        rw [tile_apply m c ⟨n, h⟩ _ _ r l b s ih'.1, ih'.2 (by omega) l, add_assoc]
        congr 1
        rw [show (n - 1) % 11 + 1 = n % 11 from by omega, Finset.sum_range_succ]

/-- What the block holds after the last point of a run: the layer's rows, normalised. -/
theorem last_apply (n : ℕ) (h : n < cfg0.N) (h1 : n % 11 = 10) (r : Fin 1024) (b : Fin 4) (s : Fin 2048) (hat : At n r b s) (l : Fin 2048) :
    (outsAt0 m c n h).1 (ix2 r l)
      = rms (ffnRow (xRow m c b s) (gain m c) (wgate m c) (wup m c) (wdown m c)) (fgain m c) l := by
  have hp : n - 1 < cfg0.N := Nat.lt_of_le_of_lt (Nat.sub_le _ _) h
  have ih' := fold_apply m c (n - 1) hp r b s (by unfold At at hat ⊢; omega)
  rw [show outsAt0 m c n h = _ from outs_last m c ⟨n, h⟩ (by simp only []; omega) h1 hp]
  show k0_pay4 _ _ (ix2 r l) = _
  rw [pay4_apply]
  congr 1
  · funext k
    rw [tile_apply m c ⟨n, h⟩ _ _ r k b s ih'.1, ih'.2 (by omega) k, add_assoc]
    unfold ffnRow
    rw [← sum_tiles, show (n - 1) % 11 + 1 = 10 from by omega, show (⟨n, h⟩ : Fin cfg0.N).val % 11 = 10 from h1]
    rw [Finset.sum_range_succ _ 10]
  · funext k
    exact blk5 m c _ k

/-- The array the launch leaves, read at an index. -/
theorem final_apply (i : Fin 8192) (l : Fin 2048) (b : Fin 4) (s : Fin 2048) (hi : 2048 * b.val + s.val = i.val) :
    G6 m c (ix2 i l)
      = rms (ffnRow (xRow m c b s) (gain m c) (wgate m c) (wup m c) (wdown m c)) (fgain m c) l := by
  have hi' := i.isLt
  have hr : run6Of (ix2 i l) = i.val / 1024 := by
    show 1 * (i.val / 1024 - 0) + 1 * (l.val / 2048 - 0) = _
    have := l.isLt; omega
  have hlt : pt6Of (ix2 i l) < cfg0.N := by
    show 11 * run6Of (ix2 i l) + 10 < _
    rw [hr, show cfg0.N = 88 from N_0]; omega
  unfold G6
  rw [dif_pos hlt, ← outsAt0_sweep]
  have hloc : loc6Of (ix2 i l) = ix2 ⟨i.val % 1024, Nat.mod_lt _ (by decide)⟩ l := by
    funext a
    match a with
    | ⟨0, _⟩ => rfl
    | ⟨1, _⟩ => exact Fin.ext (Nat.mod_eq_of_lt l.isLt)
  rw [hloc]
  refine last_apply m c _ hlt ?_ _ b s ?_ l
  · show (11 * run6Of (ix2 i l) + 10) % 11 = 10
    omega
  · show 2048 * b.val + s.val = 1024 * ((11 * run6Of (ix2 i l) + 10) / 11) + i.val % 1024
    rw [hr]; omega

end Cert.FfnValue

end
-- ==== Proof.FfnRef.lean ====
module

public import proofs.«01_k».proof.Proof.FfnKernel
public import proofs.«01_k».proof.Proof.Gen.FfnRefIdeal.Read

@[expose] public section

set_option maxRecDepth 16384

noncomputable section

namespace Cert.FfnValue

open Idealize.ShloMosaic Idealize.ShloMosaic.TcCoe Cert.FfnRefIdeal Cert.FfnRefIdeal.Read

variable (x0 : (⟨S4x2048x2048, .f32⟩ : BufTy).Contents (Elt Ideal)) (x1 : (⟨S2x2048, .f32⟩ : BufTy).Contents (Elt Ideal))
  (x2 x3 : (⟨S2x2048x5632, .f32⟩ : BufTy).Contents (Elt Ideal)) (x4 : (⟨S2x5632x2048, .f32⟩ : BufTy).Contents (Elt Ideal))
  (x5 : (⟨S2048, .f32⟩ : BufTy).Contents (Elt Ideal))

/-- The reference's normalised rows. -/
theorem ref_xn (b : Fin 4) (s k : Fin 2048) :
    val_main_v14 x0 x1 (ix3 b s k) = rms (fun k => x0 (ix3 b s k)) (fun k => x1 (ix2 1 k)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, rms]

/-- The reference's hidden units. -/
theorem ref_hid (b : Fin 4) (s : Fin 2048) (g : Fin 5632) :
    val_main_v24 x0 x1 x2 x3 (ix3 b s g) = hid (fun k => x0 (ix3 b s k)) (fun k => x1 (ix2 1 k))
      (fun k g => x2 (ix3 1 k g)) (fun k g => x3 (ix3 1 k g)) g := by
  pointwise [val_main_v15, val_main_v16, val_main_v17, val_main_v18, val_main_v21, val_main_v22, val_main_v23, val_main_v24, val_main_call0_v0, val_main_call0_v1, val_main_call0_v2, val_main_call0_v3, val_main_call0_v4, val_main_call0_v5, val_main_call0_cst, val_main_call0_cst_0, ref_xn, hid, act]

/-- The reference's rows before the final normalisation. -/
theorem ref_row (b : Fin 4) (s l : Fin 2048) :
    val_main_v26 x0 x1 x2 x3 x4 (ix3 b s l) = ffnRow (fun k => x0 (ix3 b s k)) (fun k => x1 (ix2 1 k))
      (fun k g => x2 (ix3 1 k g)) (fun k g => x3 (ix3 1 k g)) (fun g l => x4 (ix3 1 g l)) l := by
  pointwise [val_main_v19, val_main_v20, val_main_v25, val_main_v26, ref_hid, ffnRow]

/-- The reference's result, read at an index. -/
theorem ref_apply (i : Fin 8192) (l : Fin 2048) (b : Fin 4) (s : Fin 2048) (hi : 2048 * b.val + s.val = i.val) :
    val_main_v40 x0 x1 x2 x3 x4 x5 (ix2 i l) = rms (ffnRow (fun k => x0 (ix3 b s k)) (fun k => x1 (ix2 1 k))
      (fun k g => x2 (ix3 1 k g)) (fun k g => x3 (ix3 1 k g)) (fun g l => x4 (ix3 1 g l))) (fun k => x5 (ix1 k)) l := by
  have hs := s.isLt
  have e1 : (⟨i.val / 2048, by have := i.isLt; omega⟩ : Fin 4) = b := Fin.ext (by simp only []; omega)
  have e2 : (⟨i.val % 2048, by omega⟩ : Fin 2048) = s := Fin.ext (by simp only []; omega)
  pointwise [val_main_v27, val_main_v28, val_main_v29, val_main_v30, val_main_v31, val_main_v32, val_main_v33, val_main_v34, val_main_v35, val_main_v36, val_main_v37, val_main_v38, val_main_v39, val_main_v40, val_main_cst_2, val_main_cst_3, val_main_cst_4, ref_row, rms, e1, e2]

end Cert.FfnValue

end
-- ==== Proof.FfnClaim.lean ====
module

public import proofs.«01_k».proof.Proof.FfnRef
public import proofs.«01_k».proof.Defs
public import Idealize.ShloMosaic.Lib.Quiescent

@[expose] public section

set_option maxRecDepth 16384

noncomputable section

namespace Cert.FfnValue

open Idealize.ShloMosaic Idealize.ShloMosaic.TcCoe Idealize.SL.Sem

/-- Where the two programs' arguments agree, the array the launch leaves is the reference's result. -/
theorem result_eq (m : (ℓ : Loc Cert.FfnIdeal.nD Cert.FfnIdeal.τ Cert.FfnIdeal.sig) → Buf (Elt Ideal) ℓ) (c : Dev Cert.FfnIdeal.nD) :
    Cert.FfnRefIdeal.Read.val_main_v40 (m (c.tc.loc Cert.FfnIdeal.main_arg0)) (m (c.tc.loc Cert.FfnIdeal.main_arg1))
      (m (c.tc.loc Cert.FfnIdeal.main_arg2)) (m (c.tc.loc Cert.FfnIdeal.main_arg3)) (m (c.tc.loc Cert.FfnIdeal.main_arg4))
      (m (c.tc.loc Cert.FfnIdeal.main_arg5)) = Cert.FfnIdeal.Value.G6 m c := by
  funext j
  obtain ⟨i, l, rfl⟩ : ∃ (i : Fin 8192) (l : Fin 2048), j = ix2 i l := ⟨j 0, j 1, eq_ix2 j⟩
  have hi := i.isLt
  have e : 2048 * (⟨i.val / 2048, by omega⟩ : Fin 4).val + (⟨i.val % 2048, by omega⟩ : Fin 2048).val = i.val := by
    simp only []; omega
  exact (ref_apply _ _ _ _ _ _ i l _ _ e).trans (final_apply m c i l _ _ e).symm

/-- The reference runs, leaves its arguments alone and ends with every counter at zero. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The feed-forward layer's launch and its reference end with equal results. -/
theorem algebraic : Cert.algebraic_FfnIdeal_FfnRefIdeal := fun m g m' g' _ hagree =>
  ⟨fun c => Cert.FfnIdeal.Value.G6 m c, Cert.FfnIdeal.Value.run m g,
    (θ_run Cert.FfnRefIdeal.defs _ _).mono (fun r h c => by
      refine ⟨(h c).1.trans ((Cert.FfnRefIdeal.Read.val_main_v40_eq m' c).trans ?_), (h c).2⟩
      obtain ⟨h0, h1, h2, h3, h4, h5⟩ := hagree c
      rw [h0, h1, h2, h3, h4, h5]
      exact result_eq m c)
    (Cert.FfnRefIdeal.Value.run (F := Ideal) m' g')⟩

end Cert.FfnValue

end
-- ==== Proof.AttnPay.lean ====
module

public import proofs.«01_k».proof.Proof.Gen.KernelIdeal.Skeleton
public import Idealize.ShloMosaic.Lib.Pointwise

@[expose] public section

set_option maxRecDepth 16384

noncomputable section

namespace Cert.AttnValue

open Idealize.ShloMosaic Cert.KernelIdeal Cert.KernelIdeal.Gen

/-- Position encoding of one row at a lane: the lane itself and the lanes eight to the left and to the right. -/
def rope (x c lo hi : Fin 128 → EReal) (l : Fin 128) : EReal :=
  x l * c l + x ⟨(l.val + 128 - 8) % 128, Nat.mod_lt _ (by decide)⟩ * lo l + x ⟨(l.val + 128 - 120) % 128, Nat.mod_lt _ (by decide)⟩ * hi l

/-- The weight of the second map, from the four vectors of the layer. -/
def lam (a b c d : Fin 64 → EReal) : EReal :=
  Ideal.exp (∑ k : Fin 64, a k * b k) - Ideal.exp (∑ k : Fin 64, c k * d k) + Ideal.ofBits .f32 0x3E4CCCCD#32

/-- The factor of the queries. -/
def scale : EReal := (Named.named κ "scale" 0x3E38AA3B#32 : Ideal .f32)

/-- The queries of one of the two maps: the lanes of the other one are zero. -/
def half (u : Bool) (q : Fin 128 → EReal) (l : Fin 128) : EReal :=
  if decide (l.val < 64) = u then q l * scale else 0

/-- A row of scores turned into an average of the values: the row sum of `2 ^ (score - max)` divides. -/
def average (s : Fin 2048 → EReal) (v w : Fin 2048 → EReal) : EReal :=
  Ideal.div (∑ k : Fin 2048, Ideal.exp2 (s k - Finset.univ.fold max (Ideal.ofBits .f32 0xFF800000#32) s) * v k)
    (∑ k : Fin 2048, Ideal.exp2 (s k - Finset.univ.fold max (Ideal.ofBits .f32 0xFF800000#32) s) * w k)

/-- A row after its root mean square is divided out, the gain multiplied in and the layer's constant factor. -/
def norm (o g : Fin 128 → EReal) (l : Fin 128) : EReal :=
  o l * Ideal.rsqrt (Ideal.div (∑ k : Fin 128, o k * o k) (Ideal.ofBits .f32 0x43000000#32) + Ideal.ofBits .f32 0x358637BD#32) * g l
    * Ideal.ofBits .f32 0x3F4CCCCD#32

/-- The keys after the position encoding. -/
theorem keys_apply (x : Vec Ideal S1x2048x128 .f32) (c lo hi : Vec Ideal S2048x128 .f32) (k : Fin 2048) (l : Fin 128) :
    k0_pay8 x c lo hi (ix2 k l) = rope (fun l => x (ix3 0 k l)) (fun l => c (ix2 k l)) (fun l => lo (ix2 k l)) (fun l => hi (ix2 k l)) l := by
  pointwise [k0_pay8, rope]

/-- The weight of the second map. -/
theorem lam_apply (lv : Vec Ideal S4x64 .f32) :
    k0_pay13 (k0_pay11 lv) (k0_pay12 lv) (ix2 0 0)
      = lam (fun k => lv (ix2 0 k)) (fun k => lv (ix2 1 k)) (fun k => lv (ix2 2 k)) (fun k => lv (ix2 3 k)) := by
  pointwise [k0_pay13, k0_pay12, k0_pay11, lam]

/-- The lanes of the first map, as the kernel compares them. -/
theorem lane_lt : ∀ l : Fin 128, IntOp.cmpi .slt (BitVec.ofNat 32 l.val) 64#32 = if l.val < 64 then 1#1 else 0#1 := by decide +kernel

/-- The lanes of the second map, as the kernel compares them. -/
theorem lane_ge : ∀ l : Fin 128, IntOp.cmpi .sge (BitVec.ofNat 32 l.val) 64#32 = if l.val < 64 then 0#1 else 1#1 := by decide +kernel

/-- The scores of a tile: the queries of the first map in the upper rows, of the second in the lower. -/
theorem score_apply (x : Vec Ideal S1x128x128 .f32) (c lo hi : Vec Ideal S128x128 .f32) (kb : Vec Ideal S2048x128 .bf16)
    (R : Fin 256) (r : Fin 128) (hR : R.val % 128 = r.val) (k : Fin 2048) :
    k0_pay23 (iota .tc S128x128 32 [1] iota_S128x128_d1_w32) x c lo hi kb (ix2 R k)
      = ∑ l : Fin 128, half (decide (R.val < 128)) (rope (fun l => x (ix3 0 r l)) (fun l => c (ix2 r l)) (fun l => lo (ix2 r l)) (fun l => hi (ix2 r l))) l
          * kb (ix2 k l) := by
  have hlt := R.isLt
  pointwise [k0_pay23]
  refine Finset.sum_congr rfl fun l _ => ?_
  congr 1
  rw [lane_lt, lane_ge]
  simp only [half, rope, scale]
  by_cases h : R.val < 128
  · obtain rfl : r = ⟨R.val, h⟩ := Fin.ext (by simp only []; omega)
    by_cases h' : l.val < 64 <;> simp [h, h', Scalar.select]
  · have hb : R.val - 128 < 128 := by omega
    have e : r = ⟨R.val - 128, hb⟩ := Fin.ext (by simp only []; omega)
    subst e
    by_cases h' : l.val < 64 <;> simp [h, h', Scalar.select]

/-- A tile of the result, from its scores. -/
theorem tile_apply (lm : Vec Ideal S1x1 .f32) (s : FVec Ideal S256x2048 .f32) (vb : Vec Ideal S2048x256 .bf16)
    (g : Vec Ideal S1x128 .f32) (r l : Fin 128) :
    k0_pay24 lm s vb g (ix3 0 r l)
      = norm (fun l => average (fun k => s (ix2 ⟨r.val, by omega⟩ k)) (fun k => vb (ix2 k ⟨l.val, by omega⟩)) (fun k => vb (ix2 k ⟨128 + l.val, by omega⟩))
          - lm (ix2 0 0) * average (fun k => s (ix2 ⟨128 + r.val, by omega⟩ k)) (fun k => vb (ix2 k ⟨l.val, by omega⟩)) (fun k => vb (ix2 k ⟨128 + l.val, by omega⟩)))
          (fun l => g (ix2 0 l)) l := by
  pointwise [k0_pay24, norm, average]
  rfl

end Cert.AttnValue

end
-- ==== Proof.AttnTile.lean ====
module

public import proofs.«01_k».proof.Proof.AttnPay
public import proofs.«01_k».proof.Proof.Gen.KernelIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.AttnValue

open Idealize.ShloMosaic Idealize.ShloMosaic.TcCoe Cert.KernelIdeal Cert.KernelIdeal.Gen

/-- The scratch memory of the values as the body reads it: the values, and ones to their right. -/
def scratch (x : Vec Ideal S1x2048x128 .f32) : Vec Ideal S2048x256 .bf16 :=
  (View.whole cc0_scratch1).readCov (Val := Elt Ideal)
    [⟨Rect.unit (s := S2048x256) ![0, 128] ![2048, 128] inb_S2048x256_S2048x128_0_128, k0_pay10 (F := Ideal)⟩,
      ⟨Rect.unit (s := S2048x256) ![0, 0] ![2048, 128] inb_S2048x256_S2048x128_0_0, k0_pay9 x⟩]
    (Rect.unit (s := S2048x256) ![0, 0] ![2048, 256] inb_S2048x256_S2048x256_0_0).toLoadRect

/-- The scratch memory's left half holds the values. -/
theorem scratch_left (x : Vec Ideal S1x2048x128 .f32) (k : Fin 2048) (l : Fin 128) :
    scratch x (ix2 k ⟨l.val, by omega⟩) = x (ix3 0 k l) := by
  have hl := l.isLt
  unfold scratch
  rw [View.readCov_eq_canon']
  canon_tiles y h
  case piece0 =>
    rw [Rect.idx_unit_val] at h1
    have e : 0 + l.val = 128 + (y 1).val := h1
    omega
  case piece1 =>
    rw [Rect.idx_unit_val] at h0 h1
    have e0 : 0 + k.val = (y 0).val := h0
    have e1 : 0 + l.val = (y 1).val := h1
    obtain ⟨k', l', rfl⟩ : ∃ (k' : Fin 2048) (l' : Fin 128), y = ix2 k' l' := ⟨y 0, y 1, eq_ix2 y⟩
    obtain rfl : k = k' := Fin.ext (by simpa using e0)
    obtain rfl : l = l' := Fin.ext (by simpa using e1)
    pointwise [k0_pay9]

/-- Its right half holds ones. -/
theorem scratch_right (x : Vec Ideal S1x2048x128 .f32) (k : Fin 2048) (l : Fin 128) :
    scratch x (ix2 k ⟨128 + l.val, by omega⟩) = Ideal.ofBits .bf16 0x3F80#16 := by
  have hl := l.isLt
  unfold scratch
  rw [View.readCov_eq_canon']
  canon_tiles y h
  case piece0 =>
    obtain ⟨k', l', rfl⟩ : ∃ (k' : Fin 2048) (l' : Fin 128), y = ix2 k' l' := ⟨y 0, y 1, eq_ix2 y⟩
    pointwise [k0_pay10]
  case piece1 =>
    rw [Rect.idx_unit_val] at h1
    have e : 0 + (128 + l.val) = (y 1).val := h1
    omega

/-- One row of the result: from the queries of the row, the keys, the values and the row weights. -/
def rowOut (lm : EReal) (q : Fin 128 → EReal) (kb v w : Fin 2048 → Fin 128 → EReal) (g : Fin 128 → EReal) (l : Fin 128) : EReal :=
  norm (fun l => average (fun k => ∑ l : Fin 128, half true q l * kb k l) (fun k => v k l) (fun k => w k l)
    - lm * average (fun k => ∑ l : Fin 128, half false q l * kb k l) (fun k => v k l) (fun k => w k l)) g l

/-- A tile of the result, from its rows of queries and tables. -/
def tile (lv : Vec Ideal S4x64 .f32) (g : Vec Ideal S1x128 .f32) (c lo hi : Vec Ideal S128x128 .f32) (q : Vec Ideal S1x128x128 .f32)
    (kb : Vec Ideal S2048x128 .bf16) (vb : Vec Ideal S2048x256 .bf16) : FVec Ideal S1x128x128 .bf16 :=
  k0_pay24 (k0_pay13 (k0_pay11 lv) (k0_pay12 lv)) (k0_pay23 (iota .tc S128x128 32 [1] iota_S128x128_d1_w32) q c lo hi kb) vb g

/-- The weight of the second map, from its block. -/
def lamOf (lv : Vec Ideal S4x64 .f32) : EReal :=
  lam (fun k => lv (ix2 0 k)) (fun k => lv (ix2 1 k)) (fun k => lv (ix2 2 k)) (fun k => lv (ix2 3 k))

/-- A tile at an index is a row of the result. -/
theorem tile_row (lv : Vec Ideal S4x64 .f32) (g : Vec Ideal S1x128 .f32) (c lo hi : Vec Ideal S128x128 .f32) (q : Vec Ideal S1x128x128 .f32)
    (kb : Vec Ideal S2048x128 .bf16) (vb : Vec Ideal S2048x256 .bf16) (r l : Fin 128) :
    tile lv g c lo hi q kb vb (ix3 0 r l)
      = rowOut (lamOf lv) (rope (fun l => q (ix3 0 r l)) (fun l => c (ix2 r l)) (fun l => lo (ix2 r l)) (fun l => hi (ix2 r l)))
          (fun k l => kb (ix2 k l)) (fun k l => vb (ix2 k ⟨l.val, by omega⟩)) (fun k l => vb (ix2 k ⟨128 + l.val, by omega⟩))
          (fun l => g (ix2 0 l)) l := by
  have hr := r.isLt
  rw [tile, tile_apply, lam_apply]
  unfold rowOut lamOf
  simp only [score_apply _ _ _ _ _ ⟨r.val, by omega⟩ r (by simp only []; omega), score_apply _ _ _ _ _ ⟨128 + r.val, by omega⟩ r (by simp only []; omega)]
  simp [hr]

/-- One stored tile, whose rows start at row `o` of the blocks, is the rows of the result it stands for. -/
theorem piece (lv : Vec Ideal S4x64 .f32) (g : Vec Ideal S1x128 .f32) (c lo hi : Vec Ideal S2048x128 .f32) (q : Vec Ideal S1x2048x128 .f32)
    (kb : Vec Ideal S2048x128 .bf16) (vb : Vec Ideal S2048x256 .bf16) (o : ℕ) (i1 : ∀ a, (![o, 0] : Fin 2 → ℕ) a + (![128, 128] : Fin 2 → ℕ) a ≤ S2048x128.size a)
    (i2 : ∀ a, (![0, o, 0] : Fin 3 → ℕ) a + (![1, 128, 128] : Fin 3 → ℕ) a ≤ S1x2048x128.size a) (s : Fin 2048) (l : Fin 128)
    (x : S1x128x128.Idx) (h1 : s.val = o + (x 1).val) (h2 : l.val = (x 2).val) :
    tile lv g (View.ld c (Rect.unit (s := S2048x128) ![o, 0] ![128, 128] i1)) (View.ld lo (Rect.unit (s := S2048x128) ![o, 0] ![128, 128] i1))
        (View.ld hi (Rect.unit (s := S2048x128) ![o, 0] ![128, 128] i1)) (View.ld q (Rect.unit (s := S1x2048x128) ![0, o, 0] ![1, 128, 128] i2)) kb vb x
      = rowOut (lamOf lv) (rope (fun l => q (ix3 0 s l)) (fun l => c (ix2 s l)) (fun l => lo (ix2 s l)) (fun l => hi (ix2 s l)))
          (fun k l => kb (ix2 k l)) (fun k l => vb (ix2 k ⟨l.val, by omega⟩)) (fun k l => vb (ix2 k ⟨128 + l.val, by omega⟩))
          (fun l => g (ix2 0 l)) l := by
  obtain ⟨z, r, l', rfl⟩ : ∃ (z : Fin 1) (r l' : Fin 128), x = ix3 z r l' := ⟨x 0, x 1, x 2, eq_ix3 x⟩
  obtain rfl : z = 0 := Subsingleton.elim _ _
  obtain rfl : l = l' := Fin.ext h2
  have h1' : s.val = o + r.val := h1
  rw [tile_row]
  congr 2
  · funext l
    refine View.ld_unit_apply_of _ _ _ _ _ _ fun a => ?_
    fin_cases a <;> simp [h1', ix3]
  all_goals
    funext l
    refine View.ld_unit_apply_of _ _ _ _ _ _ fun a => ?_
    fin_cases a <;> simp [h1', ix2]

set_option maxHeartbeats 2000000 in
/-- The block of attention results a point leaves, at an index. -/
theorem out_apply (m : (ℓ : Loc nD τ sig) → Buf (Elt Ideal) ℓ) (c : Dev nD) (t : Fin cfg0.N) (s : Fin 2048) (l : Fin 128) :
    (outsAt0 m c t).1 (ix3 0 s l) = rowOut (lamOf (iblk m c 0 t))
          (rope (fun l => iblk m c 5 t (ix3 0 s l)) (fun l => iblk m c 2 t (ix2 s l)) (fun l => iblk m c 3 t (ix2 s l)) (fun l => iblk m c 4 t (ix2 s l)))
          (fun k l => k0_pay8 (iblk m c 6 t) (iblk m c 2 t) (iblk m c 3 t) (iblk m c 4 t) (ix2 k l))
          (fun k l => scratch (iblk m c 7 t) (ix2 k ⟨l.val, by omega⟩)) (fun k l => scratch (iblk m c 7 t) (ix2 k ⟨128 + l.val, by omega⟩))
          (fun l => iblk m c 1 t (ix2 0 l)) l := by
  unfold outsAt0
  dsimp only
  frame_open
  frame_out
  canon_tiles x h
  all_goals first
    | exact piece (iblk m c 0 t) (iblk m c 1 t) (iblk m c 2 t) (iblk m c 3 t) (iblk m c 4 t) (iblk m c 5 t)
        (k0_pay8 (iblk m c 6 t) (iblk m c 2 t) (iblk m c 3 t) (iblk m c 4 t)) (scratch (iblk m c 7 t)) _ _ _ s l x h1 h2
    | exact piece (iblk m c 0 t) (iblk m c 1 t) (iblk m c 2 t) (iblk m c 3 t) (iblk m c 4 t) (iblk m c 5 t)
        (k0_pay8 (iblk m c 6 t) (iblk m c 2 t) (iblk m c 3 t) (iblk m c 4 t)) (scratch (iblk m c 7 t)) 0 _ _ s l x
        (h1.trans (Nat.zero_add _).symm) h2

end Cert.AttnValue

end
-- ==== Proof.AttnBlk.lean ====
module

public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.AttnValue

open Idealize.ShloMosaic Idealize.ShloMosaic.TcCoe Cert.KernelIdeal Cert.KernelIdeal.Gen

variable (m : (ℓ : Loc nD τ sig) → Buf (Elt Ideal) ℓ)

/-- The blocks of queries, keys, values and results at a grid point. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![t.val / 8, 0, t.val % 8] ∧ win0_6.index t = ![t.val / 8, 0, 8 + t.val % 8]
    ∧ win0_7.index t = ![t.val / 8, 0, 16 + t.val % 8] ∧ win0_14.index t = ![t.val / 8, 0, t.val % 8] :=
  (by decide +kernel : ∀ t : Fin grid0.N, _)

/-- The slabs of the first three weights and of their results at a grid point. -/
theorem idx_w : ∀ t : Fin cfg0.N, win0_8.index t = ![t.val / 16, t.val % 16, 0] ∧ win0_9.index t = ![t.val / 16, t.val % 16, 0]
    ∧ win0_10.index t = ![t.val / 16, t.val % 16, 0] ∧ win0_11.index t = ![0, t.val, 0]
    ∧ win0_12.index t = ![0, t.val, 0] ∧ win0_13.index t = ![0, t.val, 0]  :=
  (by decide +kernel : ∀ t : Fin grid0.N, _)

/-- The four vectors that the weight of the second map is made of. -/
theorem blk0 (c : Dev nD) (t : Fin cfg0.N) (k : Fin 64) :
    iblk m c 0 t (ix2 0 k) = m ((c : Thread nD τ).loc main_arg1) (ix2 0 k)
    ∧ iblk m c 0 t (ix2 1 k) = m ((c : Thread nD τ).loc main_arg2) (ix2 0 k)
    ∧ iblk m c 0 t (ix2 2 k) = m ((c : Thread nD τ).loc main_arg3) (ix2 0 k)
    ∧ iblk m c 0 t (ix2 3 k) = m ((c : Thread nD τ).loc main_arg4) (ix2 0 k) := by
  have e : ∀ i : Fin 4, iblk m c 0 t (ix2 i k) = V m c main_v8 (ix2 i k) := fun i => by blk_ext [iblk, idx t]
  simp only [e]
  unfold V
  after_reads_simp
  refine ⟨?_, ?_, ?_, ?_⟩ <;> pointwise <;> after_reads_simp <;> pointwise

/-- The gain of the normalisation. -/
theorem blk1 (c : Dev nD) (t : Fin cfg0.N) (k : Fin 128) :
    iblk m c 1 t (ix2 0 k) = m ((c : Thread nD τ).loc main_arg5) (ix2 0 k) := by
  have e : iblk m c 1 t (ix2 0 k) = V m c main_v34 (ix2 0 k) := by blk_ext [iblk, idx t]
  rw [e]
  unfold V
  after_reads_simp
  pointwise

/-- The angle of a position and a frequency. -/
def ang (s : Fin 2048) (j : Fin 8) : EReal :=
  (FloatOps.sitofp .f32 (BitVec.ofNat 32 s.val) : Ideal .f32) *
    Ideal.pow (Ideal.ofBits .f32 0x48F42400#32) (Ideal.div (-(FloatOps.sitofp .f32 (BitVec.ofNat 32 j.val) : Ideal .f32)) (Ideal.ofBits .f32 0x41000000#32))

/-- A table of the position encoding at a lane: `a` on the first eight lanes of a map, `b` on the next eight, `z` on the others. -/
def tab (a b : Fin 8 → EReal) (z : EReal) (l : Fin 128) : EReal :=
  if h : l.val % 64 < 8 then a ⟨l.val % 64, h⟩ else if h : l.val % 64 - 8 < 8 then b ⟨l.val % 64 - 8, h⟩ else z

/-- The same table, map by map. -/
theorem tab_eq (a b : Fin 8 → EReal) (z : EReal) (l : Fin 128) : tab a b z l =
    if h : l.val < 64 then
      if h1 : l.val < 8 then a ⟨l.val, h1⟩ else if h2 : l.val - 8 < 8 then b ⟨l.val - 8, h2⟩ else z
    else if h1 : l.val - 64 < 8 then a ⟨l.val - 64, h1⟩ else if h2 : l.val - 64 - 8 < 8 then b ⟨l.val - 64 - 8, h2⟩ else z := by
  have hl := l.isLt
  unfold tab
  by_cases h : l.val < 64
  · have e : l.val % 64 = l.val := by omega
    simp only [e, h, dif_pos]
  · have e : l.val % 64 = l.val - 64 := by omega
    simp only [e, dif_neg h]

/-- The table of cosines. -/
theorem blk2 (c : Dev nD) (t : Fin cfg0.N) (s : Fin 2048) (l : Fin 128) :
    (iblk m c 2 t (ix2 s l) : EReal) = tab (fun j => Ideal.cos (ang s j)) (fun j => Ideal.cos (ang s j)) 1 l := by
  have e : iblk m c 2 t (ix2 s l) = V m c main_v31 (ix2 s l) := by blk_ext [iblk, idx t]
  rw [e, tab_eq]
  unfold V ang
  after_reads_simp
  pointwise
  after_reads_simp
  pointwise

/-- The table of sines for the lanes to the left. -/
theorem blk3 (c : Dev nD) (t : Fin cfg0.N) (s : Fin 2048) (l : Fin 128) :
    (iblk m c 3 t (ix2 s l) : EReal) = tab (fun _ => 0) (fun j => Ideal.sin (ang s j)) 0 l := by
  have e : iblk m c 3 t (ix2 s l) = V m c main_v32 (ix2 s l) := by blk_ext [iblk, idx t]
  rw [e, tab_eq]
  unfold V ang
  after_reads_simp
  pointwise
  after_reads_simp
  pointwise

/-- The table of negated sines for the lanes to the right. -/
theorem blk4 (c : Dev nD) (t : Fin cfg0.N) (s : Fin 2048) (l : Fin 128) :
    (iblk m c 4 t (ix2 s l) : EReal) = tab (fun j => -Ideal.sin (ang s j)) (fun _ => 0) 0 l := by
  have e : iblk m c 4 t (ix2 s l) = V m c main_v33 (ix2 s l) := by blk_ext [iblk, idx t]
  rw [e, tab_eq]
  unfold V ang
  after_reads_simp
  pointwise
  after_reads_simp
  pointwise

/-- The queries of a head. -/
theorem blk5 (c : Dev nD) (t : Fin cfg0.N) (s : Fin 2048) (l : Fin 128) (b : Fin 4) (j : Fin 5120)
    (hb : b.val = t.val / 8) (hj : j.val = 128 * (t.val % 8) + l.val) :
    iblk m c 5 t (ix3 0 s l) = m ((c : Thread nD τ).loc main_arg0) (ix3 b s j) := by
  blk_ext [iblk, V, idx t]

/-- The keys of a head. -/
theorem blk6 (c : Dev nD) (t : Fin cfg0.N) (s : Fin 2048) (l : Fin 128) (b : Fin 4) (j : Fin 5120)
    (hb : b.val = t.val / 8) (hj : j.val = 1024 + 128 * (t.val % 8) + l.val) :
    iblk m c 6 t (ix3 0 s l) = m ((c : Thread nD τ).loc main_arg0) (ix3 b s j) := by
  blk_ext [iblk, V, idx t]

/-- The values of a head. -/
theorem blk7 (c : Dev nD) (t : Fin cfg0.N) (s : Fin 2048) (l : Fin 128) (b : Fin 4) (j : Fin 5120)
    (hb : b.val = t.val / 8) (hj : j.val = 2048 + 128 * (t.val % 8) + l.val) :
    iblk m c 7 t (ix3 0 s l) = m ((c : Thread nD τ).loc main_arg0) (ix3 b s j) := by
  blk_ext [iblk, V, idx t]

/-- A slab of the weights of the gate. -/
theorem blk8 (c : Dev nD) (t : Fin cfg0.N) (r : Fin 128) (l : Fin 5632) (b : Fin 2) (j : Fin 2048)
    (hb : b.val = t.val / 16) (hj : j.val = 128 * (t.val % 16) + r.val) :
    iblk m c 8 t (ix3 0 r l) = m ((c : Thread nD τ).loc main_arg6) (ix3 b j l) := by
  blk_ext [iblk, V, idx_w t]

/-- A slab of the weights of the up. -/
theorem blk9 (c : Dev nD) (t : Fin cfg0.N) (r : Fin 128) (l : Fin 5632) (b : Fin 2) (j : Fin 2048)
    (hb : b.val = t.val / 16) (hj : j.val = 128 * (t.val % 16) + r.val) :
    iblk m c 9 t (ix3 0 r l) = m ((c : Thread nD τ).loc main_arg7) (ix3 b j l) := by
  blk_ext [iblk, V, idx_w t]

/-- A slab of the weights of the down. -/
theorem blk10 (c : Dev nD) (t : Fin cfg0.N) (r : Fin 352) (l : Fin 2048) (b : Fin 2) (j : Fin 5632)
    (hb : b.val = t.val / 16) (hj : j.val = 352 * (t.val % 16) + r.val) :
    iblk m c 10 t (ix3 0 r l) = m ((c : Thread nD τ).loc main_arg8) (ix3 b j l) := by
  blk_ext [iblk, V, idx_w t]

/-- A slab of the weights of the first projection. -/
theorem blk11 (c : Dev nD) (t : Fin cfg0.N) (r : Fin 64) (l : Fin 10240) (j : Fin 2048)
    (hj : j.val = 64 * t.val + r.val) :
    iblk m c 11 t (ix3 0 r l) = m ((c : Thread nD τ).loc main_arg9) (ix3 0 j l) := by
  blk_ext [iblk, V, idx_w t]

/-- A slab of the weights of the second projection. -/
theorem blk12 (c : Dev nD) (t : Fin cfg0.N) (r : Fin 64) (l : Fin 2048) (j : Fin 2048)
    (hj : j.val = 64 * t.val + r.val) :
    iblk m c 12 t (ix3 0 r l) = m ((c : Thread nD τ).loc main_arg10) (ix3 0 j l) := by
  blk_ext [iblk, V, idx_w t]

/-- A slab of the weights of the last projection. -/
theorem blk13 (c : Dev nD) (t : Fin cfg0.N) (r : Fin 64) (l : Fin 2048) (j : Fin 2048)
    (hj : j.val = 64 * t.val + r.val) :
    iblk m c 13 t (ix3 0 r l) = m ((c : Thread nD τ).loc main_arg11) (ix3 0 j l) := by
  blk_ext [iblk, V, idx_w t]

end Cert.AttnValue

end
-- ==== Proof.AttnRef.lean ====
module

public import proofs.«01_k».proof.Proof.Gen.ReferenceIdeal.Read
public import proofs.«01_k».proof.Proof.AttnPay
public import proofs.«01_k».proof.Proof.AttnBlk
public import Idealize.ShloMosaic.Lib.Pointwise

@[expose] public section

set_option maxRecDepth 16384

noncomputable section

/-! The reference's attention, read at an index, stage by stage. -/

namespace Cert.AttnValue

open Idealize.ShloMosaic Idealize.ShloMosaic.TcCoe Cert.ReferenceIdeal Cert.ReferenceIdeal.Gen Cert.ReferenceIdeal.Read

/-- The position encoding of the row `y` of one map at position `s`: the first eight lanes and the next eight turn, the others stay. -/
def turn (y : Fin 64 → EReal) (s : Fin 2048) (d : Fin 64) : EReal :=
  if h : d.val < 8 then
    y d * Ideal.cos (ang s ⟨d.val, h⟩) - y ⟨8 + d.val, by omega⟩ * Ideal.sin (ang s ⟨d.val, h⟩)
  else if h : d.val - 8 < 8 then
    y d * Ideal.cos (ang s ⟨d.val - 8, h⟩) + y ⟨d.val - 8, by omega⟩ * Ideal.sin (ang s ⟨d.val - 8, h⟩)
  else y d

/-- The queries after the position encoding. -/
theorem v50_apply (x0 : Vec Ideal S4x2048x5120 .f32) (b : Fin 4) (h : Fin 8) (c : Fin 2) (s : Fin 2048) (d : Fin 64) :
    (val_main_v50 (F := Ideal) x0 (ix5 b h c s d) : EReal)
      = turn (fun d => x0 (ix3 b s ⟨h.val * 128 + c.val * 64 + d.val, by omega⟩)) s d := by
  pointwise [val_main_v50, val_main_v42, val_main_v38, val_main_v33, val_main_v19, val_main_v2, val_main_v1, val_main_v37, val_main_v36, val_main_v31, val_main_v30, val_main_v28, val_main_v26, val_main_v0, val_main_v29, val_main_v27, val_main_v25, val_main_v24, val_main_cst_3, val_main_v23, val_main_v21, val_main_v20, val_main_v22, val_main_cst_2, val_main_v41, val_main_v34, val_main_v40, val_main_v39, val_main_v32, val_main_v49, val_main_v45, val_main_v44, val_main_v43, val_main_v48, val_main_v47, val_main_v46, val_main_v35]
  unfold turn ang
  by_cases h1 : d.val < 8
  · simp only [h1, ↓reduceDIte, Nat.add_assoc]
  · by_cases h2 : d.val - 8 < 8
    · have e : 8 + (d.val - 8) = d.val := by omega
      simp only [h1, h2, ↓reduceDIte, e, Nat.add_assoc]
    · have e : 16 + (d.val - 8 - 8) = d.val := by omega
      simp only [h1, h2, ↓reduceDIte, e, Nat.add_assoc]

/-- The keys after the position encoding. -/
theorem v82_apply (x0 : Vec Ideal S4x2048x5120 .f32) (b : Fin 4) (h : Fin 8) (c : Fin 2) (s : Fin 2048) (d : Fin 64) :
    (val_main_v82 (F := Ideal) x0 (ix5 b h c s d) : EReal)
      = turn (fun d => x0 (ix3 b s ⟨1024 + h.val * 128 + c.val * 64 + d.val, by omega⟩)) s d := by
  pointwise [val_main_v82, val_main_v74, val_main_v70, val_main_v65, val_main_v51, val_main_v4, val_main_v3, val_main_v69, val_main_v68, val_main_v63, val_main_v62, val_main_v60, val_main_v58, val_main_v0, val_main_v61, val_main_v59, val_main_v57, val_main_v56, val_main_cst_5, val_main_v55, val_main_v53, val_main_v52, val_main_v54, val_main_cst_4, val_main_v73, val_main_v66, val_main_v72, val_main_v71, val_main_v64, val_main_v81, val_main_v77, val_main_v76, val_main_v75, val_main_v80, val_main_v79, val_main_v78, val_main_v67]
  unfold turn ang
  by_cases h1 : d.val < 8
  · simp only [h1, ↓reduceDIte, Nat.add_assoc]
  · by_cases h2 : d.val - 8 < 8
    · have e : 8 + (d.val - 8) = d.val := by omega
      simp only [h1, h2, ↓reduceDIte, e, Nat.add_assoc]
    · have e : 16 + (d.val - 8 - 8) = d.val := by omega
      simp only [h1, h2, ↓reduceDIte, e, Nat.add_assoc]

/-- The values. -/
theorem v83_apply (x0 : Vec Ideal S4x2048x5120 .f32) (b : Fin 4) (h : Fin 8) (s : Fin 2048) (l : Fin 128) :
    (val_main_v83 (F := Ideal) x0 (ix4 b h s l) : EReal) = x0 (ix3 b s ⟨2048 + h.val * 128 + l.val, by omega⟩) := by
  pointwise [val_main_v83, val_main_v6, val_main_v5]
  simp only [Nat.add_assoc]

/-- The weight of the second map. -/
theorem v18_apply (x1 x2 x3 x4 : Vec Ideal S1x64 .f32) (i : S_.Idx) :
    (val_main_v18 (F := Ideal) x1 x2 x3 x4 i : EReal)
      = lam (fun k => x1 (ix2 0 k)) (fun k => x2 (ix2 0 k)) (fun k => x3 (ix2 0 k)) (fun k => x4 (ix2 0 k)) := by
  pointwise [val_main_v18, val_main_v17, val_main_v11, val_main_v10, val_main_v9, val_main_v7, val_main_v8, val_main_cst, val_main_v16, val_main_v15, val_main_v14, val_main_v12, val_main_v13, val_main_cst_0, val_main_cst_1, lam]

/-- The scores. -/
theorem v86_apply (x0 : Vec Ideal S4x2048x5120 .f32) (b : Fin 4) (h : Fin 8) (c : Fin 2) (s k : Fin 2048) :
    (val_main_v86 (F := Ideal) x0 (ix5 b h c s k) : EReal)
      = (∑ d : Fin 64, val_main_v50 (F := Ideal) x0 (ix5 b h c s d) * val_main_v82 (F := Ideal) x0 (ix5 b h c k d)) * Ideal.ofBits .f32 0x3E000000#32 := by
  pointwise [val_main_v86, val_main_v84, val_main_v85, val_main_cst_6]

/-- The largest of real numbers, in a list that is not empty, is a real number. -/
theorem foldl_max_real {ι : Type} (l : List ι) (x : ι → EReal) (hx : ∀ i ∈ l, ∃ r : ℝ, x i = r) (z : EReal)
    (hz : z = ⊥ ∨ ∃ r : ℝ, z = r) (hl : (∃ r : ℝ, z = r) ∨ l ≠ []) : ∃ r : ℝ, l.foldl (fun r i => max r (x i)) z = r := by
  induction l generalizing z with
  | nil => simpa using hl
  | cons a l ih =>
    have hm : ∃ r : ℝ, max z (x a) = r := by
      obtain ⟨y, hy⟩ := hx a (by simp)
      rcases hz with rfl | ⟨r, rfl⟩
      · exact ⟨y, by simp [hy]⟩
      · exact ⟨max r y, by rw [hy]; exact (EReal.coe_strictMono.monotone.map_max).symm⟩
    exact ih (fun i hi => hx i (by simp [hi])) _ (Or.inr hm) (Or.inl hm)

/-- The literal the maximum starts from. -/
theorem ninf : Ideal.ofBits .f32 0xFF800000#32 = (⊥ : EReal) := by
  simp [Ideal.ofBits, Ideal.ieee]

/-- The largest score of a row is a real number where the scores are. -/
theorem v89_real (x0 : Vec Ideal S4x2048x5120 .f32)  (b : Fin 4) (h : Fin 8) (c : Fin 2) (s : Fin 2048)
    (hx : ∀ k, ∃ r : ℝ, val_main_v86 (F := Ideal) x0 (ix5 b h c s k) = (r : EReal)) :
    ∃ r : ℝ, val_main_v89 (F := Ideal) x0 (ix4 b h c s) = (r : EReal) := by
  rw [val_main_v89_apply, val_main_v88_apply, val_main_cst_8_apply]
  unfold val_main_v87
  rw [Host.reduce_eq_foldl]
  show ∃ r : ℝ, max (Ideal.ofBits .f32 0xFF800000#32) (List.foldl (fun (r : EReal) i => max r (val_main_v86 (F := Ideal) x0 i)) (Ideal.ofBits .f32 0xFF800000#32) _) = (r : EReal)
  rw [ninf, max_eq_right bot_le]
  refine foldl_max_real _ _ (fun i hi => ?_) _ (Or.inl rfl) (Or.inr ?_)
  · have hd := of_decide_eq_true (List.mem_filter.1 hi).2
    have e : i = ix5 b h c s (i 4) := by
      funext a
      match a with
      | ⟨0, _⟩ => exact congrFun hd 0
      | ⟨1, _⟩ => exact congrFun hd 1
      | ⟨2, _⟩ => exact congrFun hd 2
      | ⟨3, _⟩ => exact congrFun hd 3
      | ⟨4, _⟩ => rfl
    obtain ⟨r, hr⟩ := hx (i 4)
    exact ⟨r, by rw [e]; exact hr⟩
  refine List.ne_nil_of_mem (a := (ix5 b h c s (0 : Fin 2048) : S4x8x2x2048x2048.Idx)) ?_
  rw [List.mem_filter]
  refine ⟨List.mem_map.2 ⟨S4x8x2x2048x2048.rowMajor (ix5 b h c s (0 : Fin 2048)), List.mem_finRange _, Equiv.symm_apply_apply _ _⟩, ?_⟩
  rw [decide_eq_true_iff]
  funext a
  match a with
  | ⟨0, _⟩ => rfl
  | ⟨1, _⟩ => rfl
  | ⟨2, _⟩ => rfl
  | ⟨3, _⟩ => rfl

/-- The exponentials of the scores. -/
theorem v93_apply (x0 : Vec Ideal S4x2048x5120 .f32) (b : Fin 4) (h : Fin 8) (c : Fin 2) (s k : Fin 2048) :
    (val_main_v93 (F := Ideal) x0 (ix5 b h c s k) : EReal)
      = Ideal.exp (val_main_v86 (F := Ideal) x0 (ix5 b h c s k) - val_main_v89 (F := Ideal) x0 (ix4 b h c s)) := by
  pointwise [val_main_v93, val_main_v92, val_main_v91, val_main_v90]

/-- The probabilities. -/
theorem v97_apply (x0 : Vec Ideal S4x2048x5120 .f32) (b : Fin 4) (h : Fin 8) (c : Fin 2) (s k : Fin 2048) :
    (val_main_v97 (F := Ideal) x0 (ix5 b h c s k) : EReal)
      = Ideal.div (val_main_v93 (F := Ideal) x0 (ix5 b h c s k)) (∑ k : Fin 2048, val_main_v93 (F := Ideal) x0 (ix5 b h c s k)) := by
  pointwise [val_main_v97, val_main_v96, val_main_v95, val_main_v94, val_main_cst_9]

/-- The index of the scores of one map. -/
theorem ix_v99 (b : Fin 4) (h : Fin 8) (s k : Fin 2048) : idx_main_v99 (ix4 b h s k) = ix5 b h (0 : Fin 1) s k := by
  funext a
  match a with
  | ⟨0, _⟩ => exact Fin.ext (by show (((b.val * 8 + h.val) * 2048 + s.val) * 2048 + k.val) / 33554432 = b.val; omega)
  | ⟨1, _⟩ => exact Fin.ext (by show (((b.val * 8 + h.val) * 2048 + s.val) * 2048 + k.val) / 4194304 % 8 = h.val; omega)
  | ⟨2, _⟩ => rfl
  | ⟨3, _⟩ => exact Fin.ext (by show (((b.val * 8 + h.val) * 2048 + s.val) * 2048 + k.val) / 2048 % 2048 = s.val; omega)
  | ⟨4, _⟩ => exact Fin.ext (by show (((b.val * 8 + h.val) * 2048 + s.val) * 2048 + k.val) % 2048 = k.val; omega)

/-- The probabilities of the first map. -/
theorem v98_apply (x0 : Vec Ideal S4x2048x5120 .f32)  (b : Fin 4) (h : Fin 8) (s k : Fin 2048) :
    (val_main_v98 (F := Ideal) x0 (ix5 b h (0 : Fin 1) s k) : EReal) = val_main_v97 x0 (ix5 b h 0 s k) := by
  pointwise [val_main_v98]

/-- The probabilities of the second map. -/
theorem v100_apply (x0 : Vec Ideal S4x2048x5120 .f32)  (b : Fin 4) (h : Fin 8) (s k : Fin 2048) :
    (val_main_v100 (F := Ideal) x0 (ix5 b h (0 : Fin 1) s k) : EReal) = val_main_v97 x0 (ix5 b h 1 s k) := by
  pointwise [val_main_v100]

/-- The difference of the two maps. -/
theorem v104_apply (x0 : Vec Ideal S4x2048x5120 .f32) (x1 x2 x3 x4 : Vec Ideal S1x64 .f32)  (b : Fin 4) (h : Fin 8) (s k : Fin 2048) :
    (val_main_v104 (F := Ideal) x0 x1 x2 x3 x4 (ix4 b h s k) : EReal)
      = val_main_v97 x0 (ix5 b h 0 s k) - val_main_v18 x1 x2 x3 x4 (fun a => a.elim0) * val_main_v97 x0 (ix5 b h 1 s k) := by
  rw [val_main_v104_apply, val_main_v103_apply, val_main_v99_apply, val_main_v101_apply, val_main_v102_apply]
  show (_ : EReal) - _ * _ = _
  rw [ix_v99, show idx_main_v101 (ix4 b h s k) = ix5 b h (0 : Fin 1) s k from ix_v99 b h s k, v98_apply, v100_apply]

/-- The average of the values. -/
theorem v105_apply (x0 : Vec Ideal S4x2048x5120 .f32) (x1 x2 x3 x4 : Vec Ideal S1x64 .f32) (b : Fin 4) (h : Fin 8) (s : Fin 2048) (l : Fin 128) :
    (val_main_v105 (F := Ideal) x0 x1 x2 x3 x4 (ix4 b h s l) : EReal)
      = ∑ k : Fin 2048, val_main_v104 (F := Ideal) x0 x1 x2 x3 x4 (ix4 b h s k) * val_main_v83 (F := Ideal) x0 (ix4 b h k l) := by
  pointwise [val_main_v105]

/-- The average with the heads after the positions. -/
theorem v106_apply (x0 : Vec Ideal S4x2048x5120 .f32) (x1 x2 x3 x4 : Vec Ideal S1x64 .f32)  (b : Fin 4) (s : Fin 2048) (h : Fin 8) (l : Fin 128) :
    (val_main_v106 (F := Ideal) x0 x1 x2 x3 x4 (ix4 b s h l) : EReal) = val_main_v105 x0 x1 x2 x3 x4 (ix4 b h s l) := by
  pointwise [val_main_v106]

/-- The gain. -/
theorem v107_apply (x5 : Vec Ideal S1x128 .f32) (l : Fin 128) :
    (val_main_v107 (F := Ideal) x5 (ix1 l) : EReal) = x5 (ix2 0 l) := by
  pointwise [val_main_v107]

/-- The gain at every row. -/
theorem v119_apply (x5 : Vec Ideal S1x128 .f32) (b : Fin 4) (s : Fin 2048) (h : Fin 8) (l : Fin 128) :
    (val_main_v119 (F := Ideal) x5 (ix4 b s h l) : EReal) = val_main_v107 x5 (ix1 l) := by
  pointwise [val_main_v119, val_main_v118]

/-- The sum of the squares of a row. -/
theorem v109_apply (x0 : Vec Ideal S4x2048x5120 .f32) (x1 x2 x3 x4 : Vec Ideal S1x64 .f32) (b : Fin 4) (s : Fin 2048) (h : Fin 8) :
    (val_main_v109 (F := Ideal) x0 x1 x2 x3 x4 (ix3 b s h) : EReal)
      = ∑ l : Fin 128, val_main_v105 (F := Ideal) x0 x1 x2 x3 x4 (ix4 b h s l) * val_main_v105 (F := Ideal) x0 x1 x2 x3 x4 (ix4 b h s l) := by
  rw [val_main_v109_apply]
  have z : (val_main_cst_10 (F := Ideal) (Shape.Idx.first h_S_) : EReal) = 0 := by
    show Ideal.ofBits .f32 0x00000000#32 = 0
    simp [Ideal.ofBits, Ideal.ieee]
  rw [z, zero_add]
  refine Finset.sum_congr rfl fun l _ => ?_
  rw [val_main_v108_apply, show idx_main_v109 (ix3 b s h) l = ix4 b s h l from by
    funext a
    match a with
    | ⟨0, _⟩ => rfl
    | ⟨1, _⟩ => rfl
    | ⟨2, _⟩ => rfl
    | ⟨3, _⟩ => rfl, v106_apply]
  rfl

/-- The factor of a row at its lanes. -/
theorem v116_apply (x0 : Vec Ideal S4x2048x5120 .f32) (x1 x2 x3 x4 : Vec Ideal S1x64 .f32)  (b : Fin 4) (s : Fin 2048) (h : Fin 8) (l : Fin 128) :
    (val_main_v116 (F := Ideal) x0 x1 x2 x3 x4 (ix4 b s h l) : EReal) = val_main_v115 x0 x1 x2 x3 x4 (ix4 b s h (0 : Fin 1)) := by
  pointwise [val_main_v116]

/-- The sum of the squares, one axis more. -/
theorem v110_apply (x0 : Vec Ideal S4x2048x5120 .f32) (x1 x2 x3 x4 : Vec Ideal S1x64 .f32)  (b : Fin 4) (s : Fin 2048) (h : Fin 8) :
    (val_main_v110 (F := Ideal) x0 x1 x2 x3 x4 (ix4 b s h (0 : Fin 1)) : EReal) = val_main_v109 x0 x1 x2 x3 x4 (ix3 b s h) := by
  pointwise [val_main_v110]

/-- A row after its root mean square is divided out. -/
theorem v122_apply (x0 : Vec Ideal S4x2048x5120 .f32) (x1 x2 x3 x4 : Vec Ideal S1x64 .f32) (x5 : Vec Ideal S1x128 .f32)  (b : Fin 4) (s : Fin 2048) (h : Fin 8) (l : Fin 128) :
    (val_main_v122 (F := Ideal) x0 x1 x2 x3 x4 x5 (ix4 b s h l) : EReal) = val_main_v106 x0 x1 x2 x3 x4 (ix4 b s h l)
      * Ideal.rsqrt (Ideal.div (val_main_v109 x0 x1 x2 x3 x4 (ix3 b s h)) (Ideal.ofBits .f32 0x43000000#32) + Ideal.ofBits .f32 0x358637BD#32)
      * val_main_v119 x5 (ix4 b s h l) * Ideal.ofBits .f32 0x3F4CCCCD#32 := by
  rw [val_main_v122_apply, val_main_v120_apply, val_main_v117_apply, v116_apply, val_main_v115_apply, val_main_v114_apply,
    val_main_v112_apply, v110_apply, val_main_v121_apply, val_main_v113_apply, val_main_v111_apply]
  rfl

/-- The heads and lanes of a column of the result. -/
theorem ix_v123 (b : Fin 4) (s : Fin 2048) (j : Fin 1024) :
    idx_main_v123 (ix3 b s j) = ix4 b s ⟨j.val / 128, by omega⟩ ⟨j.val % 128, by omega⟩ := by
  funext a
  match a with
  | ⟨0, _⟩ => exact Fin.ext (by show ((b.val * 2048 + s.val) * 1024 + j.val) / 2097152 = b.val; omega)
  | ⟨1, _⟩ => exact Fin.ext (by show ((b.val * 2048 + s.val) * 1024 + j.val) / 1024 % 2048 = s.val; omega)
  | ⟨2, _⟩ => exact Fin.ext (by show ((b.val * 2048 + s.val) * 1024 + j.val) / 128 % 8 = j.val / 128; omega)
  | ⟨3, _⟩ => exact Fin.ext (by show ((b.val * 2048 + s.val) * 1024 + j.val) % 128 = j.val % 128; omega)

/-- The result. -/
theorem v124_apply (x0 : Vec Ideal S4x2048x5120 .f32) (x1 x2 x3 x4 : Vec Ideal S1x64 .f32) (x5 : Vec Ideal S1x128 .f32)  (b : Fin 4) (s : Fin 2048) (j : Fin 1024) :
    (val_main_v124 (F := Ideal) x0 x1 x2 x3 x4 x5 (ix3 b s j) : EReal)
      = val_main_v122 x0 x1 x2 x3 x4 x5 (ix4 b s ⟨j.val / 128, by omega⟩ ⟨j.val % 128, by omega⟩) := by
  rw [val_main_v124_apply, val_main_v123_apply, ix_v123]
  rfl

/-- The result as a normalized row. -/
theorem ref_norm (x0 : Vec Ideal S4x2048x5120 .f32) (x1 x2 x3 x4 : Vec Ideal S1x64 .f32) (x5 : Vec Ideal S1x128 .f32) (b : Fin 4) (s : Fin 2048) (h : Fin 8) (l : Fin 128) (j : Fin 1024) (hj : j.val = 128 * h.val + l.val) :
    (val_main_v124 (F := Ideal) x0 x1 x2 x3 x4 x5 (ix3 b s j) : EReal)
      = norm (fun l => val_main_v105 (F := Ideal) x0 x1 x2 x3 x4 (ix4 b h s l)) (fun l => x5 (ix2 0 l)) l := by
  rw [v124_apply]
  have e1 : (⟨j.val / 128, by omega⟩ : Fin 8) = h := Fin.ext (by show j.val / 128 = h.val; omega)
  have e2 : (⟨j.val % 128, by omega⟩ : Fin 128) = l := Fin.ext (by show j.val % 128 = l.val; omega)
  rw [e1, e2, v122_apply, v106_apply, v109_apply, v119_apply, v107_apply]
  rfl

end Cert.AttnValue

end
-- ==== Proof.AttnReal.lean ====
module

public import proofs.«01_k».proof.Proof.AttnPay
public import proofs.«01_k».proof.Proof.AttnBlk
public import proofs.«01_k».proof.Proof.AttnTile

@[expose] public section

set_option maxRecDepth 16384

noncomputable section

/-! Attention over real numbers: the two ways of writing a normalized exponential agree. -/

namespace Cert.AttnValue

open Idealize.ShloMosaic Idealize.ShloMosaic.TcCoe Cert.KernelIdeal Cert.KernelIdeal.Gen

/-- A sum of real numbers, taken among the extended ones. -/
theorem coe_sum' {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A quotient of real numbers, taken among the extended ones. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The literal a maximum starts from. -/
theorem start_bot : Ideal.ofBits .f32 0xFF800000#32 = (⊥ : EReal) := by
  simp [Ideal.ofBits, Ideal.ieee]

/-- The largest of finitely many real numbers is a real number. -/
theorem fold_max_real (s : Fin 2048 → ℝ) :
    ∃ M : ℝ, Finset.univ.fold max (Ideal.ofBits .f32 0xFF800000#32) (fun k => (s k : EReal)) = (M : EReal) := by
  classical
  rw [start_bot]
  have key : ∀ S : Finset (Fin 2048), S = ∅ ∨ ∃ M : ℝ, S.fold max (⊥ : EReal) (fun k => (s k : EReal)) = (M : EReal) := by
    intro S
    induction S using Finset.induction_on with
    | empty => exact Or.inl rfl
    | insert a S h ih =>
      right
      rw [Finset.fold_insert h]
      rcases ih with rfl | ⟨M, hM⟩
      · exact ⟨s a, by simp⟩
      · exact ⟨max (s a) M, by rw [hM]; exact (EReal.coe_strictMono.monotone.map_max).symm⟩
  rcases key Finset.univ with h | h
  · exact absurd h (Finset.univ_nonempty.ne_empty)
  · exact h

/-- Powers of two of shifted scores average as exponentials of the scores do. -/
theorem average_real (t v : Fin 2048 → ℝ) (s : Fin 2048 → EReal) (hs : ∀ k, s k = (t k : EReal)) (w : Fin 2048 → EReal) (hw : ∀ k, w k = 1)
    (v' : Fin 2048 → EReal) (hv : ∀ k, v' k = (v k : EReal)) :
    average s v' w
      = ((∑ k, Real.exp (Real.log 2 * t k) * v k) / (∑ k, Real.exp (Real.log 2 * t k)) : ℝ) := by
  obtain ⟨M, hM⟩ := fold_max_real t
  have e : s = fun k => (t k : EReal) := funext hs
  have e2 : ∀ k, Ideal.exp2 ((t k : EReal) - (M : EReal)) = ((Real.exp (Real.log 2 * t k) * Real.exp (-(Real.log 2 * M)) : ℝ) : EReal) := by
    intro k
    rw [← EReal.coe_sub]
    show ((Real.rpow 2 (t k - M) : ℝ) : EReal) = _
    rw [← Real.exp_add]
    show (((2 : ℝ) ^ (t k - M) : ℝ) : EReal) = _
    rw [Real.rpow_def_of_pos (by norm_num)]
    rw [show Real.log 2 * (t k - M) = Real.log 2 * t k + -(Real.log 2 * M) by ring]
  unfold average
  subst e
  rw [hM]
  simp only [e2, hv, hw, mul_one, ← EReal.coe_mul, ← coe_sum']
  have hpos : 0 < ∑ k, Real.exp (Real.log 2 * t k) * Real.exp (-(Real.log 2 * M)) :=
    Finset.sum_pos (fun k _ => mul_pos (Real.exp_pos _) (Real.exp_pos _)) Finset.univ_nonempty
  rw [div_coe _ _ hpos.ne', ← Finset.sum_mul]
  refine congrArg (fun x : ℝ => (x : EReal)) ?_
  have : ∀ k, Real.exp (Real.log 2 * t k) * Real.exp (-(Real.log 2 * M)) * v k = Real.exp (Real.log 2 * t k) * v k * Real.exp (-(Real.log 2 * M)) :=
    fun k => by ring
  simp only [this]
  rw [← Finset.sum_mul, mul_div_mul_right _ _ (Real.exp_pos _).ne']

/-- A normalized exponential of real scores, whatever real number is taken off them. -/
theorem prob_real (t : Fin 2048 → ℝ) (M : ℝ) (k : Fin 2048) :
    Ideal.div (Ideal.exp ((t k : EReal) - (M : EReal))) (∑ k, Ideal.exp ((t k : EReal) - (M : EReal)))
      = (Real.exp (t k) / ∑ k, Real.exp (t k) : ℝ) := by
  have e : ∀ k, Ideal.exp ((t k : EReal) - (M : EReal)) = ((Real.exp (t k) * Real.exp (-M) : ℝ) : EReal) := by
    intro k
    rw [← EReal.coe_sub, ← Real.exp_add, ← sub_eq_add_neg]
    rfl
  have hpos : 0 < ∑ k, Real.exp (t k) * Real.exp (-M) :=
    Finset.sum_pos (fun k _ => mul_pos (Real.exp_pos _) (Real.exp_pos _)) Finset.univ_nonempty
  simp only [e, ← coe_sum']
  rw [div_coe _ _ hpos.ne', ← Finset.sum_mul, mul_div_mul_right _ _ (Real.exp_pos _).ne']

/-- The difference of two averages is the average by the difference of the probabilities. -/
theorem average_sub (a b v : Fin 2048 → ℝ) (r : ℝ) :
    (∑ k, a k * v k) / (∑ k, a k) - r * ((∑ k, b k * v k) / (∑ k, b k))
      = ∑ k, (a k / (∑ k, a k) - r * (b k / ∑ k, b k)) * v k := by
  simp only [sub_mul, Finset.sum_sub_distrib, Finset.sum_div, Finset.mul_sum]
  congr 1 <;> refine Finset.sum_congr rfl fun k _ => ?_ <;> ring

/-- The factor of the queries, as a real number. -/
theorem scale_eq : scale = (((8 * (Real.log 2))⁻¹ : ℝ) : EReal) :=
  IdealRules.named_const.ideal_named_scalar _ _ _ _ rfl

/-- One eighth. -/
theorem eighth : Ideal.ofBits .f32 0x3E000000#32 = ((1 / 8 : ℝ) : EReal) := by
  simp [Ideal.ofBits, Ideal.ieee, -EReal.coe_mul]
  norm_num

/-- One. -/
theorem one16 : Ideal.ofBits .bf16 0x3F80#16 = (1 : EReal) := by
  simp [Ideal.ofBits, Ideal.ieee, -EReal.coe_mul]
  norm_num

/-- An angle is a real number. -/
theorem ang_real (s : Fin 2048) (j : Fin 8) : ∃ r : ℝ, ang s j = (r : EReal) := by
  have h1 : Ideal.ofBits .f32 0x48F42400#32 = ((500000 : ℝ) : EReal) := by
    simp [Ideal.ofBits, Ideal.ieee, -EReal.coe_mul]
    norm_num
  have h2 : Ideal.ofBits .f32 0x41000000#32 = ((8 : ℝ) : EReal) := by
    simp [Ideal.ofBits, Ideal.ieee, -EReal.coe_mul]
    norm_num
  unfold ang
  rw [h1, h2]
  show ∃ r : ℝ, (((BitVec.ofNat 32 s.val).toInt : ℝ) : EReal) * Ideal.pow ((500000 : ℝ) : EReal) (Ideal.div (-(((BitVec.ofNat 32 j.val).toInt : ℝ) : EReal)) ((8 : ℝ) : EReal)) = (r : EReal)
  rw [← EReal.coe_neg, div_coe _ _ (by norm_num)]
  exact ⟨_, (EReal.coe_mul _ _).symm⟩

/-- The scores of one map: the lanes of the other one vanish. -/
theorem half_sum (u : Bool) (q kb : Fin 128 → ℝ) :
    ∑ l : Fin 128, half u (fun l => (q l : EReal)) l * (kb l : EReal)
      = (((8 * (Real.log 2))⁻¹ * ∑ d : Fin 64, q ⟨(if u then 0 else 64) + d.val, by split <;> omega⟩
          * kb ⟨(if u then 0 else 64) + d.val, by split <;> omega⟩ : ℝ) : EReal) := by
  have e : ∀ l : Fin 128, half u (fun l => (q l : EReal)) l * (kb l : EReal)
      = ((if decide (l.val < 64) = u then q l * (8 * (Real.log 2))⁻¹ * kb l else 0 : ℝ) : EReal) := by
    intro l
    unfold half
    rw [scale_eq]
    split
    · rw [← EReal.coe_mul, ← EReal.coe_mul]
    · simp
  simp only [e, ← coe_sum']
  congr 1
  rw [show (Finset.univ : Finset (Fin 128)) = (Finset.univ : Finset (Fin (64 + 64))) from rfl, Fin.sum_univ_add, Finset.mul_sum]
  cases u
  · have z : ∀ i : Fin 64, ¬ (decide ((Fin.castAdd 64 i).val < 64) = false) := fun i => by simp
    have o : ∀ i : Fin 64, decide ((Fin.natAdd 64 i).val < 64) = false := fun i => by simp
    rw [Finset.sum_eq_zero (fun i _ => if_neg (z i)), zero_add]
    refine Finset.sum_congr rfl fun i _ => ?_
    rw [if_pos (o i)]
    show q ⟨64 + i.val, _⟩ * _ * kb ⟨64 + i.val, _⟩ = _
    simp only [Bool.false_eq_true, ↓reduceIte]
    ring
  · have z : ∀ i : Fin 64, ¬ (decide ((Fin.natAdd 64 i).val < 64) = true) := fun i => by simp
    have o : ∀ i : Fin 64, decide ((Fin.castAdd 64 i).val < 64) = true := fun i => by simp
    rw [Finset.sum_eq_zero (s := Finset.univ) (f := fun i : Fin 64 => if decide ((Fin.natAdd 64 i).val < 64) = true then _ else _) (fun i _ => if_neg (z i)), add_zero]
    refine Finset.sum_congr rfl fun i _ => ?_
    rw [if_pos (o i)]
    show q ⟨i.val, _⟩ * _ * kb ⟨i.val, _⟩ = _
    simp only [↓reduceIte, Nat.zero_add]
    ring

end Cert.AttnValue

end
-- ==== Proof.AttnEq.lean ====
module

public import proofs.«01_k».proof.Proof.AttnRef
public import proofs.«01_k».proof.Proof.AttnReal

@[expose] public section

set_option maxRecDepth 16384

noncomputable section

/-! The reference's average of the values, written as the kernel writes it. -/

namespace Cert.AttnValue

open Idealize.ShloMosaic Idealize.ShloMosaic.TcCoe Cert.ReferenceIdeal Cert.ReferenceIdeal.Gen Cert.ReferenceIdeal.Read

/-- A row of both maps of a head after the position encoding, as the kernel computes it with its three tables. -/
def coded (x : Fin 128 → EReal) (s : Fin 2048) : Fin 128 → EReal :=
  rope x (tab (fun j => Ideal.cos (ang s j)) (fun j => Ideal.cos (ang s j)) 1) (tab (fun _ => 0) (fun j => Ideal.sin (ang s j)) 0)
    (tab (fun j => -Ideal.sin (ang s j)) (fun _ => 0) 0)

/-- The three tables turn the lanes of either map. -/
theorem coded_turn (x : Fin 128 → EReal) (s : Fin 2048) (c : Fin 2) (d : Fin 64) (l : Fin 128) (hl : l.val = c.val * 64 + d.val) :
    coded x s l = turn (fun d => x ⟨c.val * 64 + d.val, by omega⟩) s d := by
  have e : l.val % 64 = d.val := by omega
  unfold coded rope tab turn
  simp only [e]
  have hx : x l = x ⟨c.val * 64 + d.val, by omega⟩ := congrArg x (Fin.ext hl)
  by_cases h1 : d.val < 8
  · have hy : x ⟨(l.val + 128 - 120) % 128, Nat.mod_lt _ (by decide)⟩ = x ⟨c.val * 64 + (8 + d.val), by omega⟩ :=
      congrArg x (Fin.ext (by show (l.val + 128 - 120) % 128 = c.val * 64 + (8 + d.val); omega))
    simp only [h1, ↓reduceDIte, mul_zero, add_zero, hx, hy]
    rw [show ∀ a b : EReal, a * -b = -(a * b) from fun a b => by rw [mul_comm, EReal.neg_mul, mul_comm], ← sub_eq_add_neg]
  · by_cases h2 : d.val - 8 < 8
    · have hy : x ⟨(l.val + 128 - 8) % 128, Nat.mod_lt _ (by decide)⟩ = x ⟨c.val * 64 + (d.val - 8), by omega⟩ :=
        congrArg x (Fin.ext (by show (l.val + 128 - 8) % 128 = c.val * 64 + (d.val - 8); omega))
      simp only [h1, h2, ↓reduceDIte, mul_zero, add_zero, hx, hy]
    · simp only [h1, h2, ↓reduceDIte, mul_zero, add_zero, mul_one, hx]

/-- A row of real numbers stays one. -/
theorem turn_real (y : Fin 64 → EReal) (hy : ∀ d, ∃ r : ℝ, y d = (r : EReal)) (s : Fin 2048) (d : Fin 64) :
    ∃ r : ℝ, turn y s d = (r : EReal) := by
  choose f hf using hy
  choose g hg using ang_real s
  have hc : ∀ j, Ideal.cos (ang s j) = ((Real.cos (g j) : ℝ) : EReal) := fun j => by rw [hg]; rfl
  have hs : ∀ j, Ideal.sin (ang s j) = ((Real.sin (g j) : ℝ) : EReal) := fun j => by rw [hg]; rfl
  unfold turn
  simp only [hf, hc, hs, ← EReal.coe_mul, ← EReal.coe_add, ← EReal.coe_sub]
  split
  · exact ⟨_, rfl⟩
  · split
    · exact ⟨_, rfl⟩
    · exact ⟨_, rfl⟩

/-- A coded row of real numbers is one. -/
theorem coded_real (x : Fin 128 → EReal) (hx : ∀ l, ∃ r : ℝ, x l = (r : EReal)) (s : Fin 2048) (l : Fin 128) :
    ∃ r : ℝ, coded x s l = (r : EReal) := by
  rw [coded_turn x s ⟨l.val / 64, by omega⟩ ⟨l.val % 64, by omega⟩ l (by show l.val = l.val / 64 * 64 + l.val % 64; omega)]
  exact turn_real _ (fun d => hx _) s _

/-- The weight of the second map is a real number where its vectors hold real numbers. -/
theorem lam_real (a b c d : Fin 64 → EReal) (ha : ∀ k, ∃ r : ℝ, a k = (r : EReal)) (hb : ∀ k, ∃ r : ℝ, b k = (r : EReal))
    (hc : ∀ k, ∃ r : ℝ, c k = (r : EReal)) (hd : ∀ k, ∃ r : ℝ, d k = (r : EReal)) : ∃ r : ℝ, lam a b c d = (r : EReal) := by
  choose a' ha using ha
  choose b' hb using hb
  choose c' hc using hc
  choose d' hd using hd
  have h : Ideal.ofBits .f32 0x3E4CCCCD#32 = ((13421773 / 67108864 : ℝ) : EReal) := by
    simp [Ideal.ofBits, Ideal.ieee, -EReal.coe_mul]
    norm_num
  unfold lam
  simp only [ha, hb, hc, hd, h, ← EReal.coe_mul, ← coe_sum']
  refine ⟨Real.exp (∑ k, a' k * b' k) - Real.exp (∑ k, c' k * d' k) + 13421773 / 67108864, ?_⟩
  rw [EReal.coe_add, EReal.coe_sub]
  rfl

/-- The scores of one map of a head over real rows. -/
def dots (u : Bool) (q : Fin 128 → ℝ) (kb : Fin 2048 → Fin 128 → ℝ) (k : Fin 2048) : ℝ :=
  ∑ d : Fin 64, q ⟨(if u then 0 else 64) + d.val, by split <;> omega⟩ * kb k ⟨(if u then 0 else 64) + d.val, by split <;> omega⟩

/-- One average of the kernel over real rows. -/
theorem average_half (u : Bool) (q' : Fin 128 → EReal) (q : Fin 128 → ℝ) (hq : ∀ l, q' l = (q l : EReal))
    (kb' : Fin 2048 → Fin 128 → EReal) (kb : Fin 2048 → Fin 128 → ℝ) (hk : ∀ k l, kb' k l = (kb k l : EReal))
    (v' : Fin 2048 → EReal) (v : Fin 2048 → ℝ) (hv : ∀ k, v' k = (v k : EReal)) (w : Fin 2048 → EReal) (hw : ∀ k, w k = 1) :
    average (fun k => ∑ l : Fin 128, half u q' l * kb' k l) v' w
      = ((∑ k, Real.exp (dots u q kb k * (1 / 8)) * v k) / (∑ k, Real.exp (dots u q kb k * (1 / 8))) : ℝ) := by
  rw [average_real (fun k => (8 * (Real.log 2))⁻¹ * dots u q kb k) v _ (fun k => ?_) w hw v' hv]
  · have e : ∀ k, Real.log 2 * ((8 * Real.log 2)⁻¹ * dots u q kb k) = dots u q kb k * (1 / 8) := by
      intro k
      have : Real.log 2 ≠ 0 := (Real.log_pos (by norm_num)).ne'
      field_simp
    simp only [e]
  · rw [show q' = fun l => (q l : EReal) from funext hq]
    simp only [hk]
    exact half_sum u q (kb k)

section

variable (x0 : Vec Ideal S4x2048x5120 .f32)

/-- The row of a head at column offset `o`. -/
def headRow (o : Nat) (ho : o ≤ 2048) (b : Fin 4) (h : Fin 8) (s : Fin 2048) (l : Fin 128) : EReal :=
  x0 (ix3 b s ⟨o + h.val * 128 + l.val, by omega⟩)

/-- The queries of the reference are the coded rows. -/
theorem v50_coded (b : Fin 4) (h : Fin 8) (c : Fin 2) (s : Fin 2048) (d : Fin 64) (l : Fin 128) (hl : l.val = c.val * 64 + d.val) :
    (val_main_v50 (F := Ideal) x0 (ix5 b h c s d) : EReal) = coded (headRow x0 0 (by omega) b h s) s l := by
  rw [v50_apply, coded_turn _ s c d l hl]
  unfold headRow
  simp only [Nat.zero_add, Nat.add_assoc]

/-- The keys of the reference are the coded rows. -/
theorem v82_coded (b : Fin 4) (h : Fin 8) (c : Fin 2) (s : Fin 2048) (d : Fin 64) (l : Fin 128) (hl : l.val = c.val * 64 + d.val) :
    (val_main_v82 (F := Ideal) x0 (ix5 b h c s d) : EReal) = coded (headRow x0 1024 (by omega) b h s) s l := by
  rw [v82_apply, coded_turn _ s c d l hl]
  unfold headRow
  simp only [Nat.add_assoc]

/-- The scores of the reference over real rows. -/
theorem v86_real (b : Fin 4) (h : Fin 8) (s : Fin 2048) (q : Fin 128 → ℝ) (hq : ∀ l, coded (headRow x0 0 (by omega) b h s) s l = (q l : EReal))
    (kb : Fin 2048 → Fin 128 → ℝ) (hk : ∀ k l, coded (headRow x0 1024 (by omega) b h k) k l = (kb k l : EReal))
    (u : Bool) (c : Fin 2) (hc : c.val * 64 = if u then 0 else 64) (k : Fin 2048) :
    (val_main_v86 (F := Ideal) x0 (ix5 b h c s k) : EReal) = ((dots u q kb k * (1 / 8) : ℝ) : EReal) := by
  rw [v86_apply, eighth]
  have hlt : ∀ d : Fin 64, (if u then 0 else 64) + d.val < 128 := fun d => by split <;> omega
  have e : ∀ d : Fin 64, (val_main_v50 (F := Ideal) x0 (ix5 b h c s d) : EReal) * val_main_v82 (F := Ideal) x0 (ix5 b h c k d)
      = ((q ⟨_, hlt d⟩ * kb k ⟨_, hlt d⟩ : ℝ) : EReal) := by
    intro d
    have hl : (⟨(if u then 0 else 64) + d.val, hlt d⟩ : Fin 128).val = c.val * 64 + d.val := by
      show (if u then 0 else 64) + d.val = _
      rw [hc]
    rw [v50_coded x0 b h c s d ⟨_, hlt d⟩ hl, v82_coded x0 b h c k d ⟨_, hlt d⟩ hl, hq, hk, EReal.coe_mul]
  rw [Finset.sum_congr rfl (fun d _ => e d), ← coe_sum', ← EReal.coe_mul]
  rfl

/-- The probabilities of the reference over real rows. -/
theorem v97_real (b : Fin 4) (h : Fin 8) (c : Fin 2) (s : Fin 2048) (M : ℝ) (hM : val_main_v89 (F := Ideal) x0 (ix4 b h c s) = (M : EReal))
    (t : Fin 2048 → ℝ) (ht : ∀ k, val_main_v86 (F := Ideal) x0 (ix5 b h c s k) = (t k : EReal)) (k : Fin 2048) :
    (val_main_v97 (F := Ideal) x0 (ix5 b h c s k) : EReal) = ((Real.exp (t k) / ∑ k, Real.exp (t k) : ℝ) : EReal) := by
  rw [v97_apply]
  simp only [v93_apply, hM, ht]
  exact prob_real t M k

/-- The reference's average of the values is the kernel's. -/
theorem v105_eq (x1 x2 x3 x4 : Vec Ideal S1x64 .f32)
    (hx : ∀ (b : Fin 4) (s : Fin 2048) (j : Fin 5120), j.val < 3072 → ∃ r : ℝ, x0 (ix3 b s j) = (r : EReal))
    (h1 : ∀ k, ∃ r : ℝ, x1 (ix2 0 k) = (r : EReal)) (h2 : ∀ k, ∃ r : ℝ, x2 (ix2 0 k) = (r : EReal))
    (h3 : ∀ k, ∃ r : ℝ, x3 (ix2 0 k) = (r : EReal)) (h4 : ∀ k, ∃ r : ℝ, x4 (ix2 0 k) = (r : EReal))
    (b : Fin 4) (h : Fin 8) (s : Fin 2048) (l : Fin 128) (w : Fin 2048 → EReal) (hw : ∀ k, w k = 1) :
    (val_main_v105 (F := Ideal) x0 x1 x2 x3 x4 (ix4 b h s l) : EReal)
      = average (fun k => ∑ l : Fin 128, half true (coded (headRow x0 0 (by omega) b h s) s) l * coded (headRow x0 1024 (by omega) b h k) k l)
          (fun k => headRow x0 2048 (by omega) b h k l) w
        - lam (fun k => x1 (ix2 0 k)) (fun k => x2 (ix2 0 k)) (fun k => x3 (ix2 0 k)) (fun k => x4 (ix2 0 k))
          * average (fun k => ∑ l : Fin 128, half false (coded (headRow x0 0 (by omega) b h s) s) l * coded (headRow x0 1024 (by omega) b h k) k l)
          (fun k => headRow x0 2048 (by omega) b h k l) w := by
  have hrow : ∀ (o : Nat) (ho : o ≤ 2048) (s : Fin 2048) (l : Fin 128), ∃ r : ℝ, headRow x0 o ho b h s l = (r : EReal) :=
    fun o ho s l => hx b s _ (by show o + h.val * 128 + l.val < 3072; omega)
  choose q hq using coded_real _ (hrow 0 (by omega) s) s
  choose kb hk using fun k => coded_real _ (hrow 1024 (by omega) k) k
  choose v hv using fun k => hrow 2048 (by omega) k l
  obtain ⟨r, hr⟩ := lam_real _ _ _ _ h1 h2 h3 h4
  have hs : ∀ (u : Bool) (c : Fin 2), (c.val * 64 = if u then 0 else 64) → ∀ k,
      (val_main_v97 (F := Ideal) x0 (ix5 b h c s k) : EReal)
        = ((Real.exp (dots u q kb k * (1 / 8)) / ∑ k, Real.exp (dots u q kb k * (1 / 8)) : ℝ) : EReal) := by
    intro u c hc k
    have h86 := v86_real x0 b h s q hq kb hk u c hc
    obtain ⟨M, hM⟩ := v89_real x0 b h c s (fun k => ⟨_, h86 k⟩)
    exact v97_real x0 b h c s M hM _ h86 k
  rw [v105_apply, average_half true _ q hq _ kb hk _ v hv w hw, average_half false _ q hq _ kb hk _ v hv w hw, hr,
    ← EReal.coe_mul, ← EReal.coe_sub, average_sub, coe_sum']
  refine Finset.sum_congr rfl fun k _ => ?_
  rw [v104_apply, v18_apply, hr, hs true 0 rfl, hs false 1 rfl, v83_apply,
    show x0 (ix3 b k ⟨2048 + h.val * 128 + l.val, by omega⟩) = (v k : EReal) from hv k, ← EReal.coe_mul, ← EReal.coe_sub, ← EReal.coe_mul]

end

end Cert.AttnValue

end
-- ==== Proof.AttnOut.lean ====
module

public import proofs.«01_k».proof.Proof.AttnTile
public import proofs.«01_k».proof.Proof.AttnBlk
public import proofs.«01_k».proof.Proof.AttnEq
public import proofs.«01_k».proof.Proof.Gen.KernelIdeal.Value

@[expose] public section

set_option maxRecDepth 16384

noncomputable section

/-! The arrays the attention call leaves. -/

namespace Cert.AttnValue

open Idealize.ShloMosaic Idealize.ShloMosaic.TcCoe Cert.KernelIdeal Cert.KernelIdeal.Gen

variable (m : (ℓ : Loc nD τ sig) → Buf (Elt Ideal) ℓ) (c : Dev nD) (t : Fin cfg0.N)

/-- The slabs of the results that hold the weights. -/
theorem idx_o : ∀ t : Fin cfg0.N, win0_15.index t = ![t.val / 16, t.val % 16, 0] ∧ win0_16.index t = ![t.val / 16, t.val % 16, 0]
    ∧ win0_17.index t = ![t.val / 16, t.val % 16, 0] ∧ win0_18.index t = ![0, t.val, 0]
    ∧ win0_19.index t = ![0, t.val, 0] ∧ win0_20.index t = ![0, t.val, 0] ∧ t.val < 32 :=
  (by decide +kernel : ∀ t : Fin grid0.N, _)

/-- A slab of the gate weight that a point leaves. -/
theorem slab15 (r : Fin 128) (l : Fin 5632) : ((outsAt0 m c t).2.1 (ix3 0 r l) : EReal) = iblk m c 8 t (ix3 0 r l) := by
  unfold outsAt0
  dsimp only
  frame_open
  frame_out
  pointwise [k0_pay2]

/-- A slab of the up weight that a point leaves. -/
theorem slab16 (r : Fin 128) (l : Fin 5632) : ((outsAt0 m c t).2.2.1 (ix3 0 r l) : EReal) = iblk m c 9 t (ix3 0 r l) := by
  unfold outsAt0
  dsimp only
  frame_open
  frame_out
  pointwise [k0_pay3]

/-- A slab of the down weight that a point leaves. -/
theorem slab17 (r : Fin 352) (l : Fin 2048) : ((outsAt0 m c t).2.2.2.1 (ix3 0 r l) : EReal) = iblk m c 10 t (ix3 0 r l) := by
  unfold outsAt0
  dsimp only
  frame_open
  frame_out
  pointwise [k0_pay4]

/-- A slab of the first weight that a point leaves. -/
theorem slab18 (r : Fin 64) (l : Fin 10240) : ((outsAt0 m c t).2.2.2.2.1 (ix3 0 r l) : EReal) = iblk m c 11 t (ix3 0 r l) := by
  unfold outsAt0
  dsimp only
  frame_open
  frame_out
  pointwise [k0_pay5]

/-- A slab of the second weight that a point leaves. -/
theorem slab19 (r : Fin 64) (l : Fin 2048) : ((outsAt0 m c t).2.2.2.2.2.1 (ix3 0 r l) : EReal) = iblk m c 12 t (ix3 0 r l) := by
  unfold outsAt0
  dsimp only
  frame_open
  frame_out
  pointwise [k0_pay6]

/-- A slab of the last weight that a point leaves. -/
theorem slab20 (r : Fin 64) (l : Fin 2048) : ((outsAt0 m c t).2.2.2.2.2.2 (ix3 0 r l) : EReal) = iblk m c 13 t (ix3 0 r l) := by
  unfold outsAt0
  dsimp only
  frame_open
  frame_out
  pointwise [k0_pay7]

/-- The gate weight after the run. -/
theorem array15 : (dats m 0 c).arrAt 15 cfg0.N = Cert.ReferenceIdeal.Read.val_main_v125 (F := Ideal) (m ((c : Thread nD τ).loc main_arg6)) := by
  refine (dats m 0 c).arrAt_eq_of_covers 15 _ (by decide +kernel) fun t hf y => ?_
  blk_simp
  rw [after0_15]
  obtain ⟨z, r, l, rfl⟩ : ∃ (z : Fin 1) (r : Fin 128) (l : Fin 5632), y = ix3 z r l := ⟨y 0, y 1, y 2, eq_ix3 y⟩
  obtain rfl : z = 0 := Subsingleton.elim _ _
  have ht := (idx_o t).2.2.2.2.2.2
  refine (slab15 m c t r l).trans ((blk8 m c t r l ⟨t.val / 16, by omega⟩ ⟨128 * (t.val % 16) + r.val, by omega⟩ rfl rfl).trans ?_)
  show m ((c : Thread nD τ).loc main_arg6) _ = m ((c : Thread nD τ).loc main_arg6) _
  blk_ext [idx_o t]

/-- The up weight after the run. -/
theorem array16 : (dats m 0 c).arrAt 16 cfg0.N = Cert.ReferenceIdeal.Read.val_main_v126 (F := Ideal) (m ((c : Thread nD τ).loc main_arg7)) := by
  refine (dats m 0 c).arrAt_eq_of_covers 16 _ (by decide +kernel) fun t hf y => ?_
  blk_simp
  rw [after0_16]
  obtain ⟨z, r, l, rfl⟩ : ∃ (z : Fin 1) (r : Fin 128) (l : Fin 5632), y = ix3 z r l := ⟨y 0, y 1, y 2, eq_ix3 y⟩
  obtain rfl : z = 0 := Subsingleton.elim _ _
  have ht := (idx_o t).2.2.2.2.2.2
  refine (slab16 m c t r l).trans ((blk9 m c t r l ⟨t.val / 16, by omega⟩ ⟨128 * (t.val % 16) + r.val, by omega⟩ rfl rfl).trans ?_)
  show m ((c : Thread nD τ).loc main_arg7) _ = m ((c : Thread nD τ).loc main_arg7) _
  blk_ext [idx_o t]

/-- The down weight after the run. -/
theorem array17 : (dats m 0 c).arrAt 17 cfg0.N = Cert.ReferenceIdeal.Read.val_main_v127 (F := Ideal) (m ((c : Thread nD τ).loc main_arg8)) := by
  refine (dats m 0 c).arrAt_eq_of_covers 17 _ (by decide +kernel) fun t hf y => ?_
  blk_simp
  rw [after0_17]
  obtain ⟨z, r, l, rfl⟩ : ∃ (z : Fin 1) (r : Fin 352) (l : Fin 2048), y = ix3 z r l := ⟨y 0, y 1, y 2, eq_ix3 y⟩
  obtain rfl : z = 0 := Subsingleton.elim _ _
  have ht := (idx_o t).2.2.2.2.2.2
  refine (slab17 m c t r l).trans ((blk10 m c t r l ⟨t.val / 16, by omega⟩ ⟨352 * (t.val % 16) + r.val, by omega⟩ rfl rfl).trans ?_)
  show m ((c : Thread nD τ).loc main_arg8) _ = m ((c : Thread nD τ).loc main_arg8) _
  blk_ext [idx_o t]

/-- The first weight after the run. -/
theorem array18 : (dats m 0 c).arrAt 18 cfg0.N = Cert.ReferenceIdeal.Read.val_main_v128 (F := Ideal) (m ((c : Thread nD τ).loc main_arg9)) := by
  refine (dats m 0 c).arrAt_eq_of_covers 18 _ (by decide +kernel) fun t hf y => ?_
  blk_simp
  rw [after0_18]
  obtain ⟨z, r, l, rfl⟩ : ∃ (z : Fin 1) (r : Fin 64) (l : Fin 10240), y = ix3 z r l := ⟨y 0, y 1, y 2, eq_ix3 y⟩
  obtain rfl : z = 0 := Subsingleton.elim _ _
  have ht := (idx_o t).2.2.2.2.2.2
  refine (slab18 m c t r l).trans ((blk11 m c t r l ⟨64 * t.val + r.val, by omega⟩ rfl).trans ?_)
  show m ((c : Thread nD τ).loc main_arg9) _ = m ((c : Thread nD τ).loc main_arg9) _
  blk_ext [idx_o t]

/-- The second weight after the run. -/
theorem array19 : (dats m 0 c).arrAt 19 cfg0.N = Cert.ReferenceIdeal.Read.val_main_v129 (F := Ideal) (m ((c : Thread nD τ).loc main_arg10)) := by
  refine (dats m 0 c).arrAt_eq_of_covers 19 _ (by decide +kernel) fun t hf y => ?_
  blk_simp
  rw [after0_19]
  obtain ⟨z, r, l, rfl⟩ : ∃ (z : Fin 1) (r : Fin 64) (l : Fin 2048), y = ix3 z r l := ⟨y 0, y 1, y 2, eq_ix3 y⟩
  obtain rfl : z = 0 := Subsingleton.elim _ _
  have ht := (idx_o t).2.2.2.2.2.2
  refine (slab19 m c t r l).trans ((blk12 m c t r l ⟨64 * t.val + r.val, by omega⟩ rfl).trans ?_)
  show m ((c : Thread nD τ).loc main_arg10) _ = m ((c : Thread nD τ).loc main_arg10) _
  blk_ext [idx_o t]

/-- The last weight after the run. -/
theorem array20 : (dats m 0 c).arrAt 20 cfg0.N = Cert.ReferenceIdeal.Read.val_main_v130 (F := Ideal) (m ((c : Thread nD τ).loc main_arg11)) := by
  refine (dats m 0 c).arrAt_eq_of_covers 20 _ (by decide +kernel) fun t hf y => ?_
  blk_simp
  rw [after0_20]
  obtain ⟨z, r, l, rfl⟩ : ∃ (z : Fin 1) (r : Fin 64) (l : Fin 2048), y = ix3 z r l := ⟨y 0, y 1, y 2, eq_ix3 y⟩
  obtain rfl : z = 0 := Subsingleton.elim _ _
  have ht := (idx_o t).2.2.2.2.2.2
  refine (slab20 m c t r l).trans ((blk13 m c t r l ⟨64 * t.val + r.val, by omega⟩ rfl).trans ?_)
  show m ((c : Thread nD τ).loc main_arg11) _ = m ((c : Thread nD τ).loc main_arg11) _
  blk_ext [idx_o t]

end Cert.AttnValue

end
-- ==== Proof.AttnClaim.lean ====
module

public import proofs.«01_k».proof.Defs
public import proofs.«01_k».proof.Proof.AttnOut
public import proofs.«01_k».proof.Proof.Gen.Pre_finite_args
public import proofs.«01_k».proof.Proof.Gen.ReferenceIdeal.Run

@[expose] public section

set_option maxRecDepth 16384

noncomputable section

/-! The attention call and its reference end with equal results. -/

namespace Cert.AttnValue

open Idealize.ShloMosaic Idealize.ShloMosaic.TcCoe Idealize.SL.Sem Cert.KernelIdeal Cert.KernelIdeal.Gen

/-- A number whose absolute value is below infinity is a real number. -/
theorem real_of_lt (x : EReal) (h : Ideal.cmp .olt (max x (-x)) (Ideal.ofBits .f32 0x7F800000#32) = 1#1) : ∃ r : ℝ, x = (r : EReal) := by
  have e : Ideal.ofBits .f32 0x7F800000#32 = (⊤ : EReal) := by
    simp [Ideal.ofBits, Ideal.ieee]
  rw [e] at h
  induction x with
  | bot => simp [Ideal.cmp] at h
  | top => simp [Ideal.cmp] at h
  | coe r => exact ⟨r, rfl⟩

variable (m : (ℓ : Loc nD τ sig) → Buf (Elt Ideal) ℓ) (c : Dev nD)

/-- The precondition at an index of the queries, keys and values. -/
theorem finite_proj (hp : Cert.Pre_KernelIdeal_finite_args m) (b : Fin 4) (s : Fin 2048) (j : Fin 5120) (hj : j.val < 3072) :
    ∃ r : ℝ, m ((c : Thread nD τ).loc main_arg0) (ix3 b s j) = (r : EReal) := by
  have h := congrFun (hp c).1 (ix3 b s (⟨j.val, hj⟩ : Fin 3072))
  unfold Cert.Pre_finite_args.fn at h
  dsimp only at h
  refine real_of_lt _ (Eq.trans ?_ h)
  pointwise
  rfl

/-- The precondition at the indices of the four vectors. -/
theorem finite_vec (hp : Cert.Pre_KernelIdeal_finite_args m) (k : Fin 64) :
    (∃ r : ℝ, m ((c : Thread nD τ).loc main_arg1) (ix2 0 k) = (r : EReal))
    ∧ (∃ r : ℝ, m ((c : Thread nD τ).loc main_arg2) (ix2 0 k) = (r : EReal))
    ∧ (∃ r : ℝ, m ((c : Thread nD τ).loc main_arg3) (ix2 0 k) = (r : EReal))
    ∧ (∃ r : ℝ, m ((c : Thread nD τ).loc main_arg4) (ix2 0 k) = (r : EReal)) := by
  have h1 := congrFun (hp c).2.1 (ix2 0 k)
  have h2 := congrFun (hp c).2.2.1 (ix2 0 k)
  have h3 := congrFun (hp c).2.2.2.1 (ix2 0 k)
  have h4 := congrFun (hp c).2.2.2.2 (ix2 0 k)
  unfold Cert.Pre_finite_args.fn at h1 h2 h3 h4
  dsimp only at h1 h2 h3 h4
  exact ⟨real_of_lt _ h1, real_of_lt _ h2, real_of_lt _ h3, real_of_lt _ h4⟩

/-- A row of a block of the launch, coded with the tables the launch holds. -/
theorem coded_blk (t : Fin cfg0.N) (x : Fin 128 → EReal) (s : Fin 2048) :
    rope x (fun l => iblk m c 2 t (ix2 s l)) (fun l => iblk m c 3 t (ix2 s l)) (fun l => iblk m c 4 t (ix2 s l)) = coded x s := by
  rw [show (fun l => (iblk m c 2 t (ix2 s l) : EReal)) = _ from funext (blk2 m c t s),
    show (fun l => (iblk m c 3 t (ix2 s l) : EReal)) = _ from funext (blk3 m c t s),
    show (fun l => (iblk m c 4 t (ix2 s l) : EReal)) = _ from funext (blk4 m c t s)]
  rfl

/-- The result of the launch at a row of a block is the reference's. -/
theorem point (hp : Cert.Pre_KernelIdeal_finite_args m) (t : Fin cfg0.N) (s : Fin 2048) (l : Fin 128) (b : Fin 4) (h : Fin 8) (j : Fin 1024)
    (hb : b.val = t.val / 8) (hh : h.val = t.val % 8) (hj : j.val = 128 * h.val + l.val) :
    ((outsAt0 m c t).1 (ix3 0 s l) : EReal)
      = Cert.ReferenceIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s j) := by
  have hq : (fun l => (iblk m c 5 t (ix3 0 s l) : EReal)) = headRow (m ((c : Thread nD τ).loc main_arg0)) 0 (by omega) b h s := by
    funext l
    exact blk5 m c t s l b _ hb (by show 0 + h.val * 128 + l.val = 128 * (t.val % 8) + l.val; omega)
  have hk : ∀ k : Fin 2048, (fun l => (iblk m c 6 t (ix3 0 k l) : EReal)) = headRow (m ((c : Thread nD τ).loc main_arg0)) 1024 (by omega) b h k := by
    intro k
    funext l
    exact blk6 m c t k l b _ hb (by show 1024 + h.val * 128 + l.val = 1024 + 128 * (t.val % 8) + l.val; omega)
  have hv : ∀ (k : Fin 2048) (l : Fin 128), (iblk m c 7 t (ix3 0 k l) : EReal) = headRow (m ((c : Thread nD τ).loc main_arg0)) 2048 (by omega) b h k l :=
    fun k l => blk7 m c t k l b _ hb (by show 2048 + h.val * 128 + l.val = 2048 + 128 * (t.val % 8) + l.val; omega)
  have hg : (fun l => (iblk m c 1 t (ix2 0 l) : EReal)) = fun l => m ((c : Thread nD τ).loc main_arg5) (ix2 0 l) := funext (blk1 m c t)
  have hl : lamOf (iblk m c 0 t) = lam (fun k => m ((c : Thread nD τ).loc main_arg1) (ix2 0 k)) (fun k => m ((c : Thread nD τ).loc main_arg2) (ix2 0 k))
      (fun k => m ((c : Thread nD τ).loc main_arg3) (ix2 0 k)) (fun k => m ((c : Thread nD τ).loc main_arg4) (ix2 0 k)) := by
    unfold lamOf
    rw [show (fun k => (iblk m c 0 t (ix2 0 k) : EReal)) = _ from funext fun k => (blk0 m c t k).1,
      show (fun k => (iblk m c 0 t (ix2 1 k) : EReal)) = _ from funext fun k => (blk0 m c t k).2.1,
      show (fun k => (iblk m c 0 t (ix2 2 k) : EReal)) = _ from funext fun k => (blk0 m c t k).2.2.1,
      show (fun k => (iblk m c 0 t (ix2 3 k) : EReal)) = _ from funext fun k => (blk0 m c t k).2.2.2]
  have hkb : (fun (k : Fin 2048) (l : Fin 128) => (k0_pay8 (iblk m c 6 t) (iblk m c 2 t) (iblk m c 3 t) (iblk m c 4 t) (ix2 k l) : EReal))
      = fun k => coded (headRow (m ((c : Thread nD τ).loc main_arg0)) 1024 (by omega) b h k) k := by
    funext k l
    rw [keys_apply, coded_blk, hk]
  have hw : ∀ (k : Fin 2048) (l : Fin 128), (scratch (iblk m c 7 t) (ix2 k ⟨128 + l.val, by omega⟩) : EReal) = 1 :=
    fun k l => (scratch_right (iblk m c 7 t) k l).trans one16
  have hvs : ∀ (k : Fin 2048) (l : Fin 128), (scratch (iblk m c 7 t) (ix2 k ⟨l.val, by omega⟩) : EReal)
      = headRow (m ((c : Thread nD τ).loc main_arg0)) 2048 (by omega) b h k l :=
    fun k l => (scratch_left (iblk m c 7 t) k l).trans (hv k l)
  rw [out_apply, coded_blk, hq, hkb, hg, hl]
  refine Eq.trans ?_ (ref_norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b s h l j hj).symm
  unfold rowOut
  congr 1
  funext l
  refine Eq.trans ?_ (v105_eq (m ((c : Thread nD τ).loc main_arg0)) (m ((c : Thread nD τ).loc main_arg1)) (m ((c : Thread nD τ).loc main_arg2))
    (m ((c : Thread nD τ).loc main_arg3)) (m ((c : Thread nD τ).loc main_arg4)) (finite_proj m c hp)
    (fun k => (finite_vec m c hp k).1) (fun k => (finite_vec m c hp k).2.1) (fun k => (finite_vec m c hp k).2.2.1)
    (fun k => (finite_vec m c hp k).2.2.2) b h s l (fun k => scratch (iblk m c 7 t) (ix2 k ⟨128 + l.val, by omega⟩)) (fun k => hw k l)).symm
  rw [show (fun k => (scratch (iblk m c 7 t) (ix2 k ⟨l.val, by omega⟩) : EReal)) = _ from funext fun k => hvs k l]

/-- The attention result after the run. -/
theorem array14 (hp : Cert.Pre_KernelIdeal_finite_args m) : (dats m 0 c).arrAt 14 cfg0.N
    = Cert.ReferenceIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t hf y => ?_
  blk_simp
  rw [after0_14]
  obtain ⟨z, s, l, rfl⟩ : ∃ (z : Fin 1) (s : Fin 2048) (l : Fin 128), y = ix3 z s l := ⟨y 0, y 1, y 2, eq_ix3 y⟩
  obtain rfl : z = 0 := Subsingleton.elim _ _
  have ht := (idx_o t).2.2.2.2.2.2
  refine (point m c hp t s l ⟨t.val / 8, by omega⟩ ⟨t.val % 8, by omega⟩ ⟨128 * (t.val % 8) + l.val, by omega⟩ rfl rfl rfl).trans ?_
  blk_ext [idx t]

set_option maxHeartbeats 2000000 in
/-- The attention call and its reference end with equal results. -/
theorem algebraic : Cert.algebraic_KernelIdeal_ReferenceIdeal_pre_finite_args := fun m g m' g' hp hagree =>
  ⟨fun c => (dats m 0 c).arrAt 14 cfg0.N, fun c => (dats m 0 c).arrAt 15 cfg0.N, fun c => (dats m 0 c).arrAt 16 cfg0.N,
    fun c => (dats m 0 c).arrAt 17 cfg0.N, fun c => (dats m 0 c).arrAt 18 cfg0.N, fun c => (dats m 0 c).arrAt 19 cfg0.N,
    fun c => (dats m 0 c).arrAt 20 cfg0.N, Cert.KernelIdeal.Value.run_blocks m g,
    (θ_run Cert.ReferenceIdeal.defs _ _).mono (fun r h c => by
      obtain ⟨h0, h1, h2, h3, h4, h5, h6, h7, h8, h9, h10, h11⟩ := hagree c
      obtain ⟨r0, r1, r2, r3, r4, r5, r6, rest⟩ := h c
      refine ⟨r0.trans ?_, r1.trans ?_, r2.trans ?_, r3.trans ?_, r4.trans ?_, r5.trans ?_, r6.trans ?_, rest⟩
      · refine Eq.trans ?_ (array14 m c hp).symm
        rw [← h0, ← h1, ← h2, ← h3, ← h4, ← h5]
        exact Cert.ReferenceIdeal.Read.val_main_v124_eq (StableHlo.launchContents m' c)
      · exact (Cert.ReferenceIdeal.Read.val_main_v125_eq (StableHlo.launchContents m' c)).trans
          ((congrArg (Cert.ReferenceIdeal.Read.val_main_v125 (F := Ideal)) h6).trans (array15 m c).symm)
      · exact (Cert.ReferenceIdeal.Read.val_main_v126_eq (StableHlo.launchContents m' c)).trans
          ((congrArg (Cert.ReferenceIdeal.Read.val_main_v126 (F := Ideal)) h7).trans (array16 m c).symm)
      · exact (Cert.ReferenceIdeal.Read.val_main_v127_eq (StableHlo.launchContents m' c)).trans
          ((congrArg (Cert.ReferenceIdeal.Read.val_main_v127 (F := Ideal)) h8).trans (array17 m c).symm)
      · exact (Cert.ReferenceIdeal.Read.val_main_v128_eq (StableHlo.launchContents m' c)).trans
          ((congrArg (Cert.ReferenceIdeal.Read.val_main_v128 (F := Ideal)) h9).trans (array18 m c).symm)
      · exact (Cert.ReferenceIdeal.Read.val_main_v129_eq (StableHlo.launchContents m' c)).trans
          ((congrArg (Cert.ReferenceIdeal.Read.val_main_v129 (F := Ideal)) h10).trans (array19 m c).symm)
      · exact (Cert.ReferenceIdeal.Read.val_main_v130_eq (StableHlo.launchContents m' c)).trans
          ((congrArg (Cert.ReferenceIdeal.Read.val_main_v130 (F := Ideal)) h11).trans (array20 m c).symm))
    (Cert.ReferenceIdeal.Value.run (F := Ideal) m' g')⟩

end Cert.AttnValue

end
-- ==== Proof.FirstKernel.lean ====
module

public import proofs.«01_k».proof.Proof.FfnKernel
public import proofs.«01_k».proof.Proof.Gen.FfnFirstIdeal.Value

@[expose] public section

set_option maxRecDepth 16384

noncomputable section

namespace Cert.FirstValue

open Idealize.ShloMosaic Idealize.ShloMosaic.TcCoe Cert.FfnFirstIdeal Cert.FfnFirstIdeal.Gen Cert.FfnFirstIdeal.Value
open Cert.FfnValue (rms act hid ffnRow nth sum_tiles At)

variable (m : (ℓ : Loc nD τ sig) → Buf (Elt Ideal) ℓ) (c : Dev nD)

/-- The block each window reads or writes at a grid point. -/
theorem idx : ∀ t : Fin cfg0.N, win0_0.index t = ![t.val / 11, 0] ∧ win0_1.index t = ![0, 0]
    ∧ win0_2.index t = ![0, 0, t.val % 11] ∧ win0_3.index t = ![0, 0, t.val % 11]
    ∧ win0_4.index t = ![0, t.val % 11, 0] :=
  (by decide +kernel : ∀ t : Fin grid0.N, _)

/-- The block of input rows at a point, read in the argument. -/
theorem blk0 (t : Fin cfg0.N) (r : Fin 1024) (k : Fin 2048) (b : Fin 4) (s : Fin 2048) (h : At t.val r b s) :
    iblk m c 0 t (ix2 r k) = m ((c : Thread nD τ).loc main_arg0) (ix3 b s k) := by
  have hb := b.isLt
  have hs := s.isLt
  unfold At at h
  have e : iblk m c 0 t (ix2 r k) = V m c main_v0 (ix2 ⟨1024 * (t.val / 11) + r.val, by omega⟩ k) := by blk_ext [iblk, idx t]
  rw [e]
  entry_read
  pointwise
  blk_ext

/-- The gain. -/
theorem blk1 (t : Fin cfg0.N) (k : Fin 2048) :
    iblk m c 1 t (ix2 0 k) = m ((c : Thread nD τ).loc main_arg1) (ix2 0 k) := by
  have e : iblk m c 1 t (ix2 0 k) = V m c main_v6 (ix2 0 k) := by blk_ext [iblk, idx t]
  rw [e]
  entry_read
  pointwise
  blk_ext

/-- A tile of the gate weights. -/
theorem blk2 (t : Fin cfg0.N) (k : Fin 2048) (f : Fin 512) (g : Fin 5632) (h : g.val = 512 * (t.val % 11) + f.val) :
    iblk m c 2 t (ix3 0 k f) = m ((c : Thread nD τ).loc main_arg2) (ix3 0 k g) := by
  blk_ext [iblk, V, idx t]

/-- A tile of the up weights. -/
theorem blk3 (t : Fin cfg0.N) (k : Fin 2048) (f : Fin 512) (g : Fin 5632) (h : g.val = 512 * (t.val % 11) + f.val) :
    iblk m c 3 t (ix3 0 k f) = m ((c : Thread nD τ).loc main_arg3) (ix3 0 k g) := by
  blk_ext [iblk, V, idx t]

/-- A tile of the down weights. -/
theorem blk4 (t : Fin cfg0.N) (f : Fin 512) (l : Fin 2048) (g : Fin 5632) (h : g.val = 512 * (t.val % 11) + f.val) :
    iblk m c 4 t (ix3 0 f l) = m ((c : Thread nD τ).loc main_arg4) (ix3 0 g l) := by
  blk_ext [iblk, V, idx t]

/-- At the first point of a run of eleven: the block is its first tile added to the input rows, the scratch the
    normalised rows. -/
theorem outs_first (t : Fin cfg0.N) (h0 : t.val % 11 = 0) :
    outsAt0 m c t.val t.isLt =
      (k0_pay3 (k0_pay2 (iblk m c 0 t) (iblk m c 1 t)) (iblk m c 2 t) (iblk m c 3 t) (k0_pay1 (iblk m c 0 t)) (iblk m c 4 t),
        k0_pay2 (iblk m c 0 t) (iblk m c 1 t)) := by
  rw [outsAt0_A m c t h0]
  frame_out

/-- At a later point: one more tile is added, the scratch kept. -/
theorem outs_next (t : Fin cfg0.N) (h0 : ¬t.val % 11 = 0) (h : t.val - 1 < cfg0.N) :
    outsAt0 m c t.val t.isLt =
      (k0_pay3 (outsAt0 m c (t.val - 1) h).2 (iblk m c 2 t) (iblk m c 3 t) (outsAt0 m c (t.val - 1) h).1 (iblk m c 4 t),
        (outsAt0 m c (t.val - 1) h).2) := by
  rw [outsAt0_B m c t h0]
  frame_out
  simp only [read_unread_whole]
  rfl

/-- The input row of batch `b`, position `s`. -/
abbrev xRow (b : Fin 4) (s : Fin 2048) : Fin 2048 → EReal := fun k => m ((c : Thread nD τ).loc main_arg0) (ix3 b s k)
/-- The gain. -/
abbrev gain : Fin 2048 → EReal := fun k => m ((c : Thread nD τ).loc main_arg1) (ix2 0 k)
/-- The gate weights. -/
abbrev wgate : Fin 2048 → Fin 5632 → EReal := fun k g => m ((c : Thread nD τ).loc main_arg2) (ix3 0 k g)
/-- The up weights. -/
abbrev wup : Fin 2048 → Fin 5632 → EReal := fun k g => m ((c : Thread nD τ).loc main_arg3) (ix3 0 k g)
/-- The down weights. -/
abbrev wdown : Fin 5632 → Fin 2048 → EReal := fun g l => m ((c : Thread nD τ).loc main_arg4) (ix3 0 g l)

/-- The contribution of hidden unit `g` to entry `l` of a row. -/
abbrev term (b : Fin 4) (s l : Fin 2048) (g : Fin 5632) : EReal :=
  hid (xRow m c b s) (gain m c) (wgate m c) (wup m c) g * wdown m c g l

/-- A point's tile, added to a block: the tile's 512 hidden units. -/
theorem tile_apply (t : Fin cfg0.N) (xn : Vec Ideal S1024x2048 .bf16) (o : Vec Ideal S1024x2048 .f32) (r : Fin 1024) (l : Fin 2048)
    (b : Fin 4) (s : Fin 2048) (hx : ∀ k : Fin 2048, xn (ix2 r k) = rms (xRow m c b s) (gain m c) k) :
    k0_pay3 xn (iblk m c 2 t) (iblk m c 3 t) o (iblk m c 4 t) (ix2 r l)
      = o (ix2 r l) + ∑ f : Fin 512, nth (term m c b s l) (t.val % 11 * 512 + f.val) := by
  rw [show k0_pay3 xn (iblk m c 2 t) (iblk m c 3 t) o (iblk m c 4 t) (ix2 r l) = _ from
    Cert.FfnValue.pay3_apply xn (iblk m c 2 t) (iblk m c 3 t) o (iblk m c 4 t) r l]
  congr 1
  refine Finset.sum_congr rfl fun f _ => ?_
  have hg : t.val % 11 * 512 + f.val < 5632 := by have := f.isLt; omega
  have e : (⟨t.val % 11 * 512 + f.val, hg⟩ : Fin 5632).val = 512 * (t.val % 11) + f.val := by simp only []; omega
  rw [show nth (term m c b s l) (t.val % 11 * 512 + f.val) = term m c b s l ⟨_, hg⟩ from dif_pos hg]
  simp only [hx, blk2 m c t _ f _ e, blk3 m c t _ f _ e, blk4 m c t f _ _ e]
  rfl

/-- What the carried buffers hold after a point: the normalised rows, and the rows plus the tiles so far. -/
theorem fold_apply : ∀ (n : ℕ) (h : n < cfg0.N), ∀ (r : Fin 1024) (b : Fin 4) (s : Fin 2048), At n r b s →
    (∀ k : Fin 2048, (outsAt0 m c n h).2 (ix2 r k) = rms (xRow m c b s) (gain m c) k)
    ∧ (∀ l : Fin 2048, (outsAt0 m c n h).1 (ix2 r l)
        = xRow m c b s l + ∑ p ∈ Finset.range (n % 11 + 1), ∑ f : Fin 512, nth (term m c b s l) (p * 512 + f.val)) := by
  intro n
  induction n using Nat.strong_induction_on with
  | _ n ih =>
    intro h r b s hat
    by_cases h0 : n % 11 = 0
    · have hx : ∀ k : Fin 2048, k0_pay2 (iblk m c 0 ⟨n, h⟩) (iblk m c 1 ⟨n, h⟩) (ix2 r k) = rms (xRow m c b s) (gain m c) k := fun k => by
        rw [show k0_pay2 (iblk m c 0 ⟨n, h⟩) (iblk m c 1 ⟨n, h⟩) (ix2 r k) = _ from
          Cert.FfnValue.pay2_apply (iblk m c 0 ⟨n, h⟩) (iblk m c 1 ⟨n, h⟩) r k]
        simp only [blk0 m c ⟨n, h⟩ r _ b s hat, blk1]
      rw [show outsAt0 m c n h = _ from outs_first m c ⟨n, h⟩ h0]
      refine ⟨hx, fun l => ?_⟩
      dsimp only
      rw [tile_apply m c ⟨n, h⟩ _ _ r l b s hx, show k0_pay1 (iblk m c 0 ⟨n, h⟩) (ix2 r l) = xRow m c b s l from by
        unfold k0_pay1; simp only [shapeCast_self]; exact blk0 m c ⟨n, h⟩ r l b s hat]
      simp only [h0, zero_add, Finset.sum_range_one, zero_mul]
    · have hp : n - 1 < cfg0.N := Nat.lt_of_le_of_lt (Nat.sub_le _ _) h
      have ih' := ih (n - 1) (by omega) hp r b s (by unfold At at hat ⊢; omega)
      rw [show outsAt0 m c n h = _ from outs_next m c ⟨n, h⟩ h0 hp]
      refine ⟨ih'.1, fun l => ?_⟩
      dsimp only
      rw [tile_apply m c ⟨n, h⟩ _ _ r l b s ih'.1, ih'.2 l, add_assoc]
      congr 1
      rw [show (n - 1) % 11 + 1 = n % 11 from by omega, Finset.sum_range_succ]

/-- The array the launch leaves, read at an index. -/
theorem final_apply (i : Fin 8192) (l : Fin 2048) (b : Fin 4) (s : Fin 2048) (hi : 2048 * b.val + s.val = i.val) :
    G5 m c (ix2 i l) = ffnRow (xRow m c b s) (gain m c) (wgate m c) (wup m c) (wdown m c) l := by
  have hi' := i.isLt
  have hr : run5Of (ix2 i l) = i.val / 1024 := by
    show 1 * (i.val / 1024 - 0) + 1 * (l.val / 2048 - 0) = _
    have := l.isLt; omega
  have hlt : pt5Of (ix2 i l) < cfg0.N := by
    show 11 * run5Of (ix2 i l) + 10 < _
    rw [hr, show cfg0.N = 88 from N_0]; omega
  unfold G5
  rw [dif_pos hlt, ← outsAt0_sweep (hn := hlt)]
  have hloc : loc5Of (ix2 i l) = ix2 ⟨i.val % 1024, Nat.mod_lt _ (by decide)⟩ l := by
    funext a
    match a with
    | ⟨0, _⟩ => rfl
    | ⟨1, _⟩ => exact Fin.ext (Nat.mod_eq_of_lt l.isLt)
  have hat : At (pt5Of (ix2 i l)) ⟨i.val % 1024, Nat.mod_lt _ (by decide)⟩ b s := by
    show 2048 * b.val + s.val = 1024 * ((11 * run5Of (ix2 i l) + 10) / 11) + i.val % 1024
    rw [hr]; omega
  rw [hloc, (fold_apply m c _ hlt _ b s hat).2 l]
  unfold ffnRow
  rw [← sum_tiles, show pt5Of (ix2 i l) % 11 + 1 = 11 from by
    show (11 * run5Of (ix2 i l) + 10) % 11 + 1 = 11
    omega]

end Cert.FirstValue

end
-- ==== Proof.FirstClaim.lean ====
module

public import proofs.«01_k».proof.Proof.FirstKernel
public import proofs.«01_k».proof.Proof.Gen.FfnFirstRefIdeal.Read
public import proofs.«01_k».proof.Defs
public import Idealize.ShloMosaic.Lib.Quiescent

@[expose] public section

set_option maxRecDepth 16384

noncomputable section

namespace Cert.FirstValue

open Idealize.ShloMosaic Idealize.ShloMosaic.TcCoe Idealize.SL.Sem Cert.FfnFirstRefIdeal Cert.FfnFirstRefIdeal.Read
open Cert.FfnValue (rms act hid ffnRow)

variable (x0 : (⟨S4x2048x2048, .f32⟩ : BufTy).Contents (Elt Ideal)) (x1 : (⟨S2x2048, .f32⟩ : BufTy).Contents (Elt Ideal))
  (x2 x3 : (⟨S2x2048x5632, .f32⟩ : BufTy).Contents (Elt Ideal)) (x4 : (⟨S2x5632x2048, .f32⟩ : BufTy).Contents (Elt Ideal))

/-- The reference's normalised rows. -/
theorem ref_xn (b : Fin 4) (s k : Fin 2048) :
    val_main_v14 x0 x1 (ix3 b s k) = rms (fun k => x0 (ix3 b s k)) (fun k => x1 (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, rms]

/-- The reference's hidden units. -/
theorem ref_hid (b : Fin 4) (s : Fin 2048) (g : Fin 5632) :
    val_main_v24 x0 x1 x2 x3 (ix3 b s g) = hid (fun k => x0 (ix3 b s k)) (fun k => x1 (ix2 0 k))
      (fun k g => x2 (ix3 0 k g)) (fun k g => x3 (ix3 0 k g)) g := by
  pointwise [val_main_v15, val_main_v16, val_main_v17, val_main_v18, val_main_v21, val_main_v22, val_main_v23, val_main_v24, val_main_call0_v0, val_main_call0_v1, val_main_call0_v2, val_main_call0_v3, val_main_call0_v4, val_main_call0_v5, val_main_call0_cst, val_main_call0_cst_0, ref_xn, hid, act]

/-- The reference's result, read at an index. -/
theorem ref_apply (i : Fin 8192) (l : Fin 2048) (b : Fin 4) (s : Fin 2048) (hi : 2048 * b.val + s.val = i.val) :
    val_main_v27 x0 x1 x2 x3 x4 (ix2 i l) = ffnRow (fun k => x0 (ix3 b s k)) (fun k => x1 (ix2 0 k))
      (fun k g => x2 (ix3 0 k g)) (fun k g => x3 (ix3 0 k g)) (fun g l => x4 (ix3 0 g l)) l := by
  have hs := s.isLt
  have e1 : (⟨i.val / 2048, by have := i.isLt; omega⟩ : Fin 4) = b := Fin.ext (by simp only []; omega)
  have e2 : (⟨i.val % 2048, by omega⟩ : Fin 2048) = s := Fin.ext (by simp only []; omega)
  pointwise [val_main_v19, val_main_v20, val_main_v25, val_main_v26, val_main_v27, ref_hid, ffnRow, e1, e2]

/-- Where the two programs' arguments agree, the array the launch leaves is the reference's result. -/
theorem result_eq (m : (ℓ : Loc Cert.FfnFirstIdeal.nD Cert.FfnFirstIdeal.τ Cert.FfnFirstIdeal.sig) → Buf (Elt Ideal) ℓ) (c : Dev Cert.FfnFirstIdeal.nD) :
    val_main_v27 (m (c.tc.loc Cert.FfnFirstIdeal.main_arg0)) (m (c.tc.loc Cert.FfnFirstIdeal.main_arg1))
      (m (c.tc.loc Cert.FfnFirstIdeal.main_arg2)) (m (c.tc.loc Cert.FfnFirstIdeal.main_arg3)) (m (c.tc.loc Cert.FfnFirstIdeal.main_arg4))
      = Cert.FfnFirstIdeal.Value.G5 m c := by
  funext j
  obtain ⟨i, l, rfl⟩ : ∃ (i : Fin 8192) (l : Fin 2048), j = ix2 i l := ⟨j 0, j 1, eq_ix2 j⟩
  have hi := i.isLt
  have e : 2048 * (⟨i.val / 2048, by omega⟩ : Fin 4).val + (⟨i.val % 2048, by omega⟩ : Fin 2048).val = i.val := by
    simp only []; omega
  exact (ref_apply _ _ _ _ _ i l _ _ e).trans (final_apply m c i l _ _ e).symm

/-- The reference runs, leaves its arguments alone and ends with every counter at zero. -/
theorem frame_ref : Cert.quiescent_FfnFirstRefIdeal := fun m ρ _ =>
  (θ_run Cert.FfnFirstRefIdeal.defs _ _).mono (fun r h => ⟨fun c => (h c).2, sem_eq_zero_of_no_sems (by decide) r.2⟩)
    (Cert.FfnFirstRefIdeal.Value.run (F := Ideal) m ρ)

/-- The first feed-forward layer's launch and its reference end with equal results. -/
theorem algebraic : Cert.algebraic_FfnFirstIdeal_FfnFirstRefIdeal := fun m g m' g' _ hagree =>
  ⟨fun c => Cert.FfnFirstIdeal.Value.G5 m c, Cert.FfnFirstIdeal.Value.run m g,
    (θ_run Cert.FfnFirstRefIdeal.defs _ _).mono (fun r h c => by
      refine ⟨(h c).1.trans ((Cert.FfnFirstRefIdeal.Read.val_main_v27_eq _ _ _ _ _).trans ?_), (h c).2⟩
      obtain ⟨h0, h1, h2, h3, h4⟩ := hagree c
      rw [h0, h1, h2, h3, h4]
      exact result_eq m c)
    (Cert.FfnFirstRefIdeal.Value.run (F := Ideal) m' g')⟩

end Cert.FirstValue

end
-- ==== Proof.GmlpPay.lean ====
module

public import proofs.«01_k».proof.Proof.Gen.GmlpIdeal.Value
public import Idealize.ShloMosaic.Lib.Pipeline.ValueKit
public import Idealize.ShloMosaic.Lib.Pointwise

@[expose] public section

set_option maxRecDepth 16384

noncomputable section

/-! The spatial gating unit: what a grid point computes. -/

namespace Cert.GmlpValue

open Idealize.ShloMosaic Cert.GmlpIdeal Cert.GmlpIdeal.Gen

/-- The gaussian error unit, by its approximation with the hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- A row less its mean. -/
def cent (row : Fin 1024 → EReal) (j : Fin 1024) : EReal :=
  row j - Ideal.div (∑ k : Fin 1024, row k) (Ideal.ofBits .f32 0x44800000#32)

/-- One entry of a row after its normalisation, with gain and bias. -/
def norm (row gain bias : Fin 1024 → EReal) (j : Fin 1024) : EReal :=
  cent row j * Ideal.rsqrt (Ideal.div (∑ k : Fin 1024, cent row k * cent row k) (Ideal.ofBits .f32 0x44800000#32) + Ideal.ofBits .f32 0x358637BD#32) * gain j + bias j

/-- The normalised rows of a chunk, read at an index. -/
theorem pay2_apply (v : Vec Ideal S1x128x1024 .f32) (g b : Vec Ideal S1x1024 .f32) (r : Fin 128) (l : Fin 1024) :
    k0_pay2 v g b (ix2 r l) = norm (fun k => gelu (v (ix3 0 r k))) (fun k => g (ix2 0 k)) (fun k => b (ix2 0 k)) l := by
  pointwise [k0_pay2, gelu, cent, norm]

/-- The gate's rows of a chunk, read at an index. -/
theorem pay3_apply (u : Vec Ideal S1x128x1024 .f32) (r : Fin 128) (l : Fin 1024) :
    k0_pay3 u (ix2 r l) = gelu (u (ix3 0 r l)) := by
  pointwise [k0_pay3, gelu]

/-- One group's columns of a chunk: the rows mixed by the group's matrix, its bias added, times the gate's columns. -/
def tile (o : ℕ) (h : S128x1024.Slices ![0, o] S128x128) (u v : Vec Ideal S1x128x1024 .f32) (g b : Vec Ideal S1x1024 .f32)
    (w : Vec Ideal S1x128x128 .bf16) (s : Vec Ideal S128x1 .f32) : FVec Ideal S1x128x128 .bf16 :=
  k0_pay1 (truncf .bf16 (mulf (extractStridedSlice S128x128 ![0, o] (k0_pay3 u) h)
    (addf (matmul dot_S128x128_S128x128_S128x128_1_0_0_1_n_n none (φ₁ := .bf16) (shapeCast S128x128 w shapeCasts_S1x128x128_S128x128 : FVec Ideal S128x128 .bf16)
        (extractStridedSlice S128x128 ![0, o] (k0_pay2 v g b) h) (constant S128x128 .f32 0x00000000#32))
      (broadcastTo S128x128 (shapeCast S128x1 s shapeCasts_S128x1_S128x1) broadcasts_S128x1_S128x128))) bitsLt_bf16_f32)

/-- A group's columns, read at an index. -/
theorem tile_apply (o : ℕ) (ho : o ≤ 896) (h : S128x1024.Slices ![0, o] S128x128) (u v : Vec Ideal S1x128x1024 .f32) (g b : Vec Ideal S1x1024 .f32)
    (w : Vec Ideal S1x128x128 .bf16) (s : Vec Ideal S128x1 .f32) (r l : Fin 128) :
    tile o h u v g b w s (ix3 0 r l) = gelu (u (ix3 0 r ⟨o + l.val, by omega⟩)) *
      (∑ q : Fin 128, w (ix3 0 r q) * norm (fun k => gelu (v (ix3 0 q k))) (fun k => g (ix2 0 k)) (fun k => b (ix2 0 k)) ⟨o + l.val, by omega⟩
        + s (ix2 r 0)) := by
  pointwise [tile, k0_pay1, pay2_apply, pay3_apply]

end Cert.GmlpValue

end
-- ==== Proof.GmlpKernel.lean ====
module

public import proofs.«01_k».proof.Proof.GmlpPay
public import Idealize.ShloMosaic.Lib.Pipeline.ReadBack
public import Idealize.ShloMosaic.Lib.Claim

@[expose] public section

set_option maxRecDepth 16384

noncomputable section

namespace Cert.GmlpValue

open Idealize.ShloMosaic Idealize.ShloMosaic.TcCoe Cert.GmlpIdeal Cert.GmlpIdeal.Gen

/-- What a grid point leaves in its block, at every index. -/
def block (x0 x1 : Vec Ideal S1x1024x1024 .f32) (x2 x3 : Vec Ideal S1x1024 .f32) (x4 : Vec Ideal S8x128x128 .bf16) (x5 : Vec Ideal S128x8 .f32)
    (r l : Fin 1024) : EReal :=
  gelu (x0 (ix3 0 r l)) * (∑ q : Fin 128, x4 (ix3 ⟨l.val / 128, by omega⟩ ⟨r.val % 128, by omega⟩ q) *
      norm (fun k => gelu (x1 (ix3 0 ⟨128 * (r.val / 128) + q.val, by omega⟩ k))) (fun k => x2 (ix2 0 k)) (fun k => x3 (ix2 0 k)) l
    + x5 (ix2 ⟨r.val % 128, by omega⟩ ⟨l.val / 128, by omega⟩))

/-- The tile that starts at row `a` and column `o` holds the block's entries there. -/
theorem tile_at (x0 x1 : Vec Ideal S1x1024x1024 .f32) (x2 x3 : Vec Ideal S1x1024 .f32) (x4 : Vec Ideal S8x128x128 .bf16) (x5 : Vec Ideal S128x8 .f32)
    (a o : ℕ) (ha : a % 128 = 0) (ha' : a ≤ 896) (ho : o % 128 = 0) (ho' : o ≤ 896) (h : S128x1024.Slices ![0, o] S128x128)
    (i1 : ∀ d, (![0, a, 0] : Fin 3 → ℕ) d + S1x128x1024.size d ≤ S1x1024x1024.size d)
    (i2 : ∀ d, (![0, a, o] : Fin 3 → ℕ) d + S1x128x128.size d ≤ S1x1024x1024.size d)
    (i3 : ∀ d, (![o / 128, 0, 0] : Fin 3 → ℕ) d + S1x128x128.size d ≤ S8x128x128.size d)
    (i4 : ∀ d, (![0, o / 128] : Fin 2 → ℕ) d + S128x1.size d ≤ S128x8.size d) (x : S1x128x128.Idx) :
    tile o h (View.ld x0 (Rect.unit (s := S1x1024x1024) ![0, a, 0] S1x128x1024.size i1)) (View.ld x1 (Rect.unit (s := S1x1024x1024) ![0, a, 0] S1x128x1024.size i1))
      (View.ld x2 r0_1) (View.ld x3 r0_1) (View.ld x4 (Rect.unit (s := S8x128x128) ![o / 128, 0, 0] S1x128x128.size i3))
      (View.ld x5 (Rect.unit (s := S128x8) ![0, o / 128] S128x1.size i4)) x =
      (fun y : S1x1024x1024.Idx => block x0 x1 x2 x3 x4 x5 (y 1) (y 2)) ((Rect.unit (s := S1x1024x1024) ![0, a, o] S1x128x128.size i2).emb x) := by
  obtain ⟨r, l, rfl⟩ : ∃ (r l : Fin 128), x = ix3 0 r l := ⟨x 1, x 2, by
    conv_lhs => rw [eq_ix3 x]
    congr 1
    exact Subsingleton.elim (α := Fin 1) _ _⟩
  have hr := r.isLt
  have hl := l.isLt
  have e0 : ∀ (z : Vec Ideal S1x1024x1024 .f32) (r : Fin 128) (k : Fin 1024),
      View.ld z (Rect.unit (s := S1x1024x1024) ![0, a, 0] S1x128x1024.size i1) (ix3 0 r k) = z (ix3 0 ⟨a + r.val, by have := r.isLt; omega⟩ k) := by
    intro z r k
    pointwise
  have e2 : ∀ (z : Vec Ideal S1x1024 .f32) (k : Fin 1024), View.ld z r0_1 (ix2 0 k) = z (ix2 0 k) := by
    intro z k
    pointwise
  have e4 : ∀ q : Fin 128, View.ld x4 (Rect.unit (s := S8x128x128) ![o / 128, 0, 0] S1x128x128.size i3) (ix3 0 r q) = x4 (ix3 ⟨o / 128, by omega⟩ r q) := by
    intro q
    pointwise
  have e5 : View.ld x5 (Rect.unit (s := S128x8) ![0, o / 128] S128x1.size i4) (ix2 r 0) = x5 (ix2 r ⟨o / 128, by omega⟩) := by
    pointwise
  have y1 : (Rect.unit (s := S1x1024x1024) ![0, a, o] S1x128x128.size i2).emb (ix3 0 r l) 1 = (⟨a + r.val, by omega⟩ : Fin 1024) :=
    Fin.ext (show a + 1 * r.val = a + r.val by omega)
  have y2 : (Rect.unit (s := S1x1024x1024) ![0, a, o] S1x128x128.size i2).emb (ix3 0 r l) 2 = (⟨o + l.val, by omega⟩ : Fin 1024) :=
    Fin.ext (show o + 1 * l.val = o + l.val by omega)
  rw [tile_apply o ho']
  show _ = block x0 x1 x2 x3 x4 x5 _ _
  rw [y1, y2]
  have g1 : (⟨(o + l.val) / 128, by omega⟩ : Fin 8) = ⟨o / 128, by omega⟩ := Fin.ext (by simp only []; omega)
  have g2 : (⟨(a + r.val) % 128, by omega⟩ : Fin 128) = r := Fin.ext (by simp only []; omega)
  have g3 : ∀ q : Fin 128, (⟨128 * ((a + r.val) / 128) + q.val, by omega⟩ : Fin 1024) = ⟨a + q.val, by omega⟩ := fun q => Fin.ext (by simp only []; omega)
  unfold block
  have e00 := e0 x0
  have e01 := e0 x1
  have e20 := e2 x2
  have e21 := e2 x3
  clear e0 e2
  generalize View.ld x0 (Rect.unit (s := S1x1024x1024) ![0, a, 0] S1x128x1024.size i1) = u at e00 ⊢
  generalize View.ld x1 (Rect.unit (s := S1x1024x1024) ![0, a, 0] S1x128x1024.size i1) = v at e01 ⊢
  generalize View.ld x2 r0_1 = g at e20 ⊢
  generalize View.ld x3 r0_1 = b at e21 ⊢
  generalize View.ld x4 (Rect.unit (s := S8x128x128) ![o / 128, 0, 0] S1x128x128.size i3) = w at e4 ⊢
  generalize View.ld x5 (Rect.unit (s := S128x8) ![0, o / 128] S128x1.size i4) = s at e5 ⊢
  simp only [e00, e01, e20, e21, e4, e5, g1, g2, g3]

/-- A group's columns lie inside the rows. -/
theorem slices (o : ℕ) (ho : o ≤ 896) : S128x1024.Slices ![0, o] S128x128 := by
  refine ⟨rfl, fun a => ?_⟩
  match a with
  | ⟨0, _⟩ => exact Nat.le_refl 128
  | ⟨1, _⟩ => exact Nat.add_le_add_right ho 128

/-- A grid point's block, read at an index. -/
theorem out_apply (x0 x1 : Vec Ideal S1x1024x1024 .f32) (x2 x3 : Vec Ideal S1x1024 .f32) (x4 : Vec Ideal S8x128x128 .bf16) (x5 : Vec Ideal S128x8 .f32)
    (r l : Fin 1024) : out0_6 x0 x1 x2 x3 x4 x5 (ix3 0 r l) = block x0 x1 x2 x3 x4 x5 r l := by
  have key := View.canon_append_of_pieces (Val := Elt Ideal) (S := S1x1024x1024) (e := .bf16)
    (fun y : S1x1024x1024.Idx => block x0 x1 x2 x3 x4 x5 (y 1) (y 2)) []
  unfold out0_6
  refine Eq.trans (congrFun (congrArg View.canon (List.append_nil _).symm) _) (key _ ?_ (ix3 0 r l) (cover0_6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _))
  simp only [List.forall_mem_cons]
  and_intros
  all_goals first
    | exact fun x => Eq.trans rfl (tile_at x0 x1 x2 x3 x4 x5 _ _ rfl (by decide) rfl (by decide) (slices _ (by decide)) _ _ _ _ x)
    | exact List.forall_mem_nil _

end Cert.GmlpValue

end
-- ==== Proof.GmlpClaim.lean ====
module

public import proofs.«01_k».proof.Proof.GmlpKernel
public import proofs.«01_k».proof.Proof.Gen.GmlpRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

/-! The spatial gating unit: the launch's array is the reference's result. -/

namespace Cert.GmlpValue

open Idealize.ShloMosaic Idealize.ShloMosaic.TcCoe Idealize.SL.Sem

section
open Cert.GmlpIdeal Cert.GmlpIdeal.Gen

variable (m : (ℓ : Loc nD τ sig) → Buf (Elt Ideal) ℓ) (c : Dev nD)

/-- The block each window reads or writes at a grid point. -/
theorem idx : ∀ t : Fin cfg0.N, win0_0.index t = ![t.val / 2, t.val % 2, 3] ∧ win0_1.index t = ![t.val / 2, t.val % 2, 4]
    ∧ win0_2.index t = ![0, 0] ∧ win0_3.index t = ![0, 0] ∧ win0_4.index t = ![0, 0, 0] ∧ win0_5.index t = ![0, 0]
    ∧ win0_6.index t = ![t.val / 2, t.val % 2, 0] ∧ t.val < 8 :=
  (by decide +kernel : ∀ t : Fin grid0.N, _)

/-- The gate's block, read in the argument. -/
theorem blk0 (t : Fin cfg0.N) (b : Fin 4) (n : ℕ) (hn : n < 2) (hb : t.val / 2 = b.val) (hm : t.val % 2 = n) (r l : Fin 1024) :
    iblk m c 0 t (ix3 0 r l) = m ((c : Thread nD τ).loc main_arg0) (ix3 b ⟨1024 * n + r.val, by omega⟩ ⟨3072 + l.val, by omega⟩) := by
  subst hm
  blk_ext [iblk, V, idx t]

/-- The block of the rows that are mixed, read in the argument. -/
theorem blk1 (t : Fin cfg0.N) (b : Fin 4) (n : ℕ) (hn : n < 2) (hb : t.val / 2 = b.val) (hm : t.val % 2 = n) (r l : Fin 1024) :
    iblk m c 1 t (ix3 0 r l) = m ((c : Thread nD τ).loc main_arg0) (ix3 b ⟨1024 * n + r.val, by omega⟩ ⟨4096 + l.val, by omega⟩) := by
  subst hm
  blk_ext [iblk, V, idx t]

/-- The gain of the normalisation. -/
theorem blk2 (t : Fin cfg0.N) (k : Fin 1024) : iblk m c 2 t (ix2 0 k) = m ((c : Thread nD τ).loc main_arg1) (ix2 0 k) := by
  have e : iblk m c 2 t (ix2 0 k) = V m c main_v4 (ix2 0 k) := by blk_ext [iblk, idx t]
  rw [e]
  entry_read
  pointwise

/-- The bias of the normalisation. -/
theorem blk3 (t : Fin cfg0.N) (k : Fin 1024) : iblk m c 3 t (ix2 0 k) = m ((c : Thread nD τ).loc main_arg2) (ix2 0 k) := by
  have e : iblk m c 3 t (ix2 0 k) = V m c main_v5 (ix2 0 k) := by blk_ext [iblk, idx t]
  rw [e]
  entry_read
  pointwise

/-- The groups' mixing matrices. -/
theorem blk4 (t : Fin cfg0.N) (g : Fin 8) (p q : Fin 128) :
    iblk m c 4 t (ix3 g p q) = m ((c : Thread nD τ).loc main_arg3) (ix4 0 g p q) := by
  have e : iblk m c 4 t (ix3 g p q) = V m c main_v6 (ix3 g p q) := by blk_ext [iblk, idx t]
  rw [e]
  entry_read
  pointwise

/-- The groups' biases. -/
theorem blk5 (t : Fin cfg0.N) (p : Fin 128) (g : Fin 8) :
    iblk m c 5 t (ix2 p g) = m ((c : Thread nD τ).loc main_arg4) (ix3 0 g p) := by
  have e : iblk m c 5 t (ix2 p g) = V m c main_v7 (ix2 p g) := by blk_ext [iblk, idx t]
  rw [e]
  entry_read
  pointwise

end

section
open Cert.GmlpRefIdeal Cert.GmlpRefIdeal.Read

variable (x0 : (⟨S4x2048x5120, .f32⟩ : BufTy).Contents (Elt Ideal)) (x1 x2 : (⟨S1x1024, .f32⟩ : BufTy).Contents (Elt Ideal))
  (x3 : (⟨S1x8x128x128, .f32⟩ : BufTy).Contents (Elt Ideal)) (x4 : (⟨S1x8x128, .f32⟩ : BufTy).Contents (Elt Ideal))

/-- The reference's gate. -/
theorem ref_u (b : Fin 4) (s : Fin 2048) (l : Fin 1024) :
    val_main_v13 x0 (ix3 b s l) = gelu (x0 (ix3 b s ⟨3072 + l.val, by omega⟩)) := by
  pointwise [val_main_v0, val_main_v1, val_main_v2, val_main_cst, val_main_v3, val_main_v4, val_main_v5, val_main_cst_0, val_main_v6, val_main_v7, val_main_v8, val_main_cst_1, val_main_v9, val_main_v10, val_main_cst_2, val_main_v11, val_main_v12, val_main_v13, gelu]

/-- The reference's rows before their normalisation. -/
theorem ref_v (b : Fin 4) (s : Fin 2048) (l : Fin 1024) :
    val_main_v27 x0 (ix3 b s l) = gelu (x0 (ix3 b s ⟨4096 + l.val, by omega⟩)) := by
  pointwise [val_main_v14, val_main_v15, val_main_v16, val_main_cst_3, val_main_v17, val_main_v18, val_main_v19, val_main_cst_4, val_main_v20, val_main_v21, val_main_v22, val_main_cst_5, val_main_v23, val_main_v24, val_main_cst_6, val_main_v25, val_main_v26, val_main_v27, gelu]

/-- The reference's row less its mean. -/
theorem ref_cent (b : Fin 4) (s : Fin 2048) (l : Fin 1024) :
    val_main_v35 x0 (ix3 b s l) = cent (fun k => val_main_v27 x0 (ix3 b s k)) l := by
  pointwise [val_main_cst_7, val_main_v30, val_main_v31, val_main_cst_8, val_main_v32, val_main_v33, val_main_v34, val_main_v35, cent]

/-- The reference's normalised rows. -/
theorem ref_norm (b : Fin 4) (s : Fin 2048) (l : Fin 1024) :
    val_main_v51 x0 x1 x2 (ix3 b s l) = norm (fun k => gelu (x0 (ix3 b s ⟨4096 + k.val, by omega⟩))) (fun k => x1 (ix2 0 k)) (fun k => x2 (ix2 0 k)) l := by
  have e : val_main_v51 x0 x1 x2 (ix3 b s l) = norm (fun k => val_main_v27 x0 (ix3 b s k)) (fun k => x1 (ix2 0 k)) (fun k => x2 (ix2 0 k)) l := by
    pointwise [val_main_v28, val_main_v29, ref_cent, val_main_v36, val_main_cst_9, val_main_v37, val_main_v38, val_main_cst_10, val_main_v39, val_main_v40, val_main_cst_11, val_main_v41, val_main_v42, val_main_v43, val_main_v44, val_main_v45, val_main_v46, val_main_v47, val_main_v48, val_main_v49, val_main_v50, val_main_v51, norm]
  rw [e]
  simp only [ref_v]

/-- The reference's mixed rows with their bias, read at an index. -/
theorem ref_mix (b : Fin 4) (s : Fin 2048) (l : Fin 1024) :
    (val_main_v61 x0 x1 x2 x3 x4 (ix3 b s l) : EReal) = ∑ q : Fin 128, x3 (ix4 0 ⟨l.val / 128, by omega⟩ ⟨s.val % 128, by omega⟩ q)
        * val_main_v51 x0 x1 x2 (ix3 b ⟨128 * (s.val / 128) + q.val, by omega⟩ l) + x4 (ix3 0 ⟨l.val / 128, by omega⟩ ⟨s.val % 128, by omega⟩) := by
  have hb := b.isLt
  have hs := s.isLt
  have hl := l.isLt
  have e61 : idx_main_v61 (ix3 b s l) = ix5 b ⟨s.val / 128, by omega⟩ ⟨s.val % 128, by omega⟩ ⟨l.val / 128, by omega⟩ ⟨l.val % 128, by omega⟩ :=
    funext fun a => Fin.ext (match a with
      | ⟨0, _⟩ => by show ((b.val * 2048 + s.val) * 1024 + l.val) / 2097152 = b.val; omega
      | ⟨1, _⟩ => by show ((b.val * 2048 + s.val) * 1024 + l.val) / 131072 % 16 = s.val / 128; omega
      | ⟨2, _⟩ => by show ((b.val * 2048 + s.val) * 1024 + l.val) / 1024 % 128 = s.val % 128; omega
      | ⟨3, _⟩ => by show ((b.val * 2048 + s.val) * 1024 + l.val) / 128 % 8 = l.val / 128; omega
      | ⟨4, _⟩ => by show ((b.val * 2048 + s.val) * 1024 + l.val) % 128 = l.val % 128; omega)
  have e52 : ∀ q : Fin 128, idx_main_v52 (ix5 b ⟨s.val / 128, by omega⟩ q ⟨l.val / 128, by omega⟩ ⟨l.val % 128, by omega⟩)
      = ix3 b ⟨128 * (s.val / 128) + q.val, by omega⟩ l := fun q =>
    funext fun a => Fin.ext (match a with
      | ⟨0, _⟩ => by show ((((b.val * 16 + s.val / 128) * 128 + q.val) * 8 + l.val / 128) * 128 + l.val % 128) / 2097152 = b.val; omega
      | ⟨1, _⟩ => by show ((((b.val * 16 + s.val / 128) * 128 + q.val) * 8 + l.val / 128) * 128 + l.val % 128) / 1024 % 2048 = 128 * (s.val / 128) + q.val; omega
      | ⟨2, _⟩ => by show ((((b.val * 16 + s.val / 128) * 128 + q.val) * 8 + l.val / 128) * 128 + l.val % 128) % 1024 = l.val; omega)
  have e53 : ∀ (g : Fin 8) (p q : Fin 128), idx_main_v53 (ix3 g p q) = ix4 0 g p q := fun g p q =>
    funext fun a => Fin.ext (match a with
      | ⟨0, _⟩ => rfl
      | ⟨1, _⟩ => by show ((g.val * 128 + p.val) * 128 + q.val) / 16384 % 8 = g.val; omega
      | ⟨2, _⟩ => by show ((g.val * 128 + p.val) * 128 + q.val) / 128 % 128 = p.val; omega
      | ⟨3, _⟩ => by show ((g.val * 128 + p.val) * 128 + q.val) % 128 = q.val; omega)
  have e56 : ∀ (g : Fin 8) (p : Fin 128), idx_main_v56 (ix2 g p) = ix3 0 g p := fun g p =>
    funext fun a => Fin.ext (match a with
      | ⟨0, _⟩ => rfl
      | ⟨1, _⟩ => by show (g.val * 128 + p.val) / 128 % 8 = g.val; omega
      | ⟨2, _⟩ => by show (g.val * 128 + p.val) % 128 = p.val; omega)
  have e55 : ∀ (n : Fin 16) (p : Fin 128) (g : Fin 8) (z : Fin 128), idx_main_v55 (ix5 b n p g z) = ix5 g b n z p := fun n p g z =>
    funext fun a => match a with
      | ⟨0, _⟩ => rfl
      | ⟨1, _⟩ => rfl
      | ⟨2, _⟩ => rfl
      | ⟨3, _⟩ => rfl
      | ⟨4, _⟩ => rfl
  have el : ∀ (n : Fin 16) (p : Fin 128) (g : Fin 8) (z q : Fin 128), lidx_main_v54 (ix5 g b n z p) q = ix5 b n q g z := fun n p g z q =>
    funext fun a => match a with
      | ⟨0, _⟩ => rfl
      | ⟨1, _⟩ => rfl
      | ⟨2, _⟩ => rfl
      | ⟨3, _⟩ => rfl
      | ⟨4, _⟩ => rfl
  have er : ∀ (n : Fin 16) (p : Fin 128) (g : Fin 8) (z q : Fin 128), ridx_main_v54 (ix5 g b n z p) q = ix3 g p q := fun n p g z q =>
    funext fun a => match a with
      | ⟨0, _⟩ => rfl
      | ⟨1, _⟩ => rfl
      | ⟨2, _⟩ => rfl
  have e57 : ∀ (n : Fin 16) (p : Fin 128) (g : Fin 8) (z : Fin 128), idx_main_v57 (idx_main_v58 (idx_main_v59 (ix5 b n p g z))) = ix2 g p := fun n p g z =>
    funext fun a => match a with
      | ⟨0, _⟩ => rfl
      | ⟨1, _⟩ => rfl
  rw [val_main_v61_apply, e61, val_main_v60_apply, val_main_v55_apply, e55, val_main_v54_apply, val_main_v59_apply, val_main_v58_apply,
    val_main_v57_apply, e57, val_main_v56_apply, e56]
  refine congrArg (· + (_ : EReal)) (Finset.sum_congr (M := EReal) rfl fun q _ => ?_)
  rw [el, er, val_main_v52_apply, e52, val_main_v53_apply, e53]
  exact mul_comm (_ : EReal) _

/-- The reference's result, read at an index. -/
theorem ref_apply (b : Fin 4) (s : Fin 2048) (l : Fin 1024) :
    val_main_v63 x0 x1 x2 x3 x4 (ix3 b s l) = gelu (x0 (ix3 b s ⟨3072 + l.val, by omega⟩)) *
      (∑ q : Fin 128, x3 (ix4 0 ⟨l.val / 128, by omega⟩ ⟨s.val % 128, by omega⟩ q)
          * norm (fun k => gelu (x0 (ix3 b ⟨128 * (s.val / 128) + q.val, by omega⟩ ⟨4096 + k.val, by omega⟩))) (fun k => x1 (ix2 0 k)) (fun k => x2 (ix2 0 k)) l
        + x4 (ix3 0 ⟨l.val / 128, by omega⟩ ⟨s.val % 128, by omega⟩)) := by
  have h := ref_mix x0 x1 x2 x3 x4 b s l
  simp only [ref_norm] at h
  rw [← h, ← ref_u]
  rfl

end

open Cert.GmlpIdeal Cert.GmlpIdeal.Gen

/-- The array the launch leaves is the reference's result of the same arguments. -/
theorem array_eq (m : (ℓ : Loc nD τ sig) → Buf (Elt Ideal) ℓ) (c : Dev nD) :
    (dats m 0 c).arrAt 6 cfg0.N = Cert.GmlpRefIdeal.Read.val_main_v63 (F := Ideal) (m (c.tc.loc main_arg0))
      (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  obtain ⟨r, l, rfl⟩ : ∃ (r l : Fin 1024), y = ix3 0 r l := ⟨y 1, y 2, by
    refine (eq_ix3 y).trans ?_
    congr 1
    exact Fin.ext (Nat.lt_one_iff.1 (y 0).isLt)⟩
  have ht := (idx t).2.2.2.2.2.2.2
  have hr := r.isLt
  have h2 : t.val % 2 < 2 := Nat.mod_lt _ (by decide)
  refine (out_apply _ _ _ _ _ _ r l).trans ?_
  unfold block
  simp only [blk0 m c t ⟨t.val / 2, by omega⟩ (t.val % 2) h2 rfl rfl, blk1 m c t ⟨t.val / 2, by omega⟩ (t.val % 2) h2 rfl rfl, blk2, blk3, blk4, blk5]
  have e := ref_apply (m (c.tc.loc main_arg0)) (m (c.tc.loc main_arg1)) (m (c.tc.loc main_arg2)) (m (c.tc.loc main_arg3)) (m (c.tc.loc main_arg4))
    ⟨t.val / 2, by omega⟩ ⟨1024 * (t.val % 2) + r.val, by omega⟩ l
  have g1 : (⟨(1024 * (t.val % 2) + r.val) % 128, by omega⟩ : Fin 128) = ⟨r.val % 128, by omega⟩ := Fin.ext (by simp only []; omega)
  have g2 : ∀ q : Fin 128, (⟨128 * ((1024 * (t.val % 2) + r.val) / 128) + q.val, by omega⟩ : Fin 2048) = ⟨1024 * (t.val % 2) + (128 * (r.val / 128) + q.val), by omega⟩ :=
    fun q => Fin.ext (by simp only []; omega)
  simp only [g1, g2] at e
  refine e.symm.trans ?_
  blk_ext [idx t]

/-- The reference runs, leaves its arguments alone and ends with every counter at zero. -/
theorem frame_ref : Cert.quiescent_GmlpRefIdeal := fun m ρ _ =>
  (θ_run Cert.GmlpRefIdeal.defs _ _).mono (fun r h => ⟨fun c => (h c).2, sem_eq_zero_of_no_sems (by decide) r.2⟩)
    (Cert.GmlpRefIdeal.Value.run (F := Ideal) m ρ)

/-- The launch of the spatial gating unit and its reference end with equal results. -/
theorem algebraic : Cert.algebraic_GmlpIdeal_GmlpRefIdeal := fun m g m' g' _ hagree =>
  ⟨fun c => (dats m 0 c).arrAt 6 cfg0.N, Cert.GmlpIdeal.Value.run_blocks m g,
    (θ_run Cert.GmlpRefIdeal.defs _ _).mono (fun r h c => by
      refine ⟨(h c).1.trans ((Cert.GmlpRefIdeal.Read.val_main_v63_eq m' c).trans ?_), (h c).2⟩
      obtain ⟨h0, h1, h2, h3, h4⟩ := hagree c
      rw [h0, h1, h2, h3, h4]
      exact (array_eq m c).symm)
    (Cert.GmlpRefIdeal.Value.run (F := Ideal) m' g')⟩

end Cert.GmlpValue

end
-- ==== Proof.ProjKernel.lean ====
module

public import proofs.«01_k».proof.Proof.FfnPay
public import proofs.«01_k».proof.Proof.Gen.ProjEvenIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.ProjValue

open Idealize.ShloMosaic Idealize.ShloMosaic.TcCoe Cert.ProjEvenIdeal Cert.ProjEvenIdeal.Gen Cert.ProjEvenIdeal.Value
open Cert.FfnValue (rms)

/-- One entry of a row's projection: the normalised row against a column of weights. -/
def proj (x gain : Fin 2048 → EReal) (w : Fin 2048 → Fin 5120 → EReal) (l : Fin 5120) : EReal :=
  ∑ k : Fin 2048, rms x gain k * w k l

/-- The product of a block of rows with a tile of weights, read at an index. -/
theorem pay2_apply (xn : Vec Ideal S1024x2048 .bf16) (w : Vec Ideal S1x2048x1024 .bf16) (r l : Fin 1024) :
    k0_pay2 xn w (ix2 r l) = ∑ k : Fin 2048, xn (ix2 r k) * w (ix3 0 k l) := by
  pointwise [k0_pay2]

variable (m : (ℓ : Loc nD τ sig) → Buf (Elt Ideal) ℓ) (c : Dev nD)

/-- The block each window reads at a grid point. -/
theorem idx : ∀ t : Fin cfg0.N, win0_0.index t = ![t.val / 5, 0] ∧ win0_1.index t = ![0, 0]
    ∧ win0_2.index t = ![0, 0, t.val % 5] :=
  (by decide +kernel : ∀ t : Fin grid0.N, _)

/-- The row of the point's block that stands at batch `b`, position `s`. -/
def At (n : ℕ) (r : Fin 1024) (b : Fin 4) (s : Fin 2048) : Prop := 2048 * b.val + s.val = 1024 * (n / 5) + r.val

/-- The block of input rows at a point, read in the argument. -/
theorem blk0 (t : Fin cfg0.N) (r : Fin 1024) (k : Fin 2048) (b : Fin 4) (s : Fin 2048) (h : At t.val r b s) :
    iblk m c 0 t (ix2 r k) = m ((c : Thread nD τ).loc main_arg0) (ix3 b s k) := by
  have hb := b.isLt
  have hs := s.isLt
  unfold At at h
  have e : iblk m c 0 t (ix2 r k) = V m c main_v0 (ix2 ⟨1024 * (t.val / 5) + r.val, by omega⟩ k) := by blk_ext [iblk, idx t]
  rw [e]
  entry_read
  pointwise
  blk_ext

/-- The gain. -/
theorem blk1 (t : Fin cfg0.N) (k : Fin 2048) :
    iblk m c 1 t (ix2 0 k) = m ((c : Thread nD τ).loc main_arg1) (ix2 0 k) := by
  have e : iblk m c 1 t (ix2 0 k) = V m c main_v4 (ix2 0 k) := by blk_ext [iblk, idx t]
  rw [e]
  entry_read
  pointwise
  blk_ext

/-- A tile of the weights. -/
theorem blk2 (t : Fin cfg0.N) (k : Fin 2048) (l : Fin 1024) (g : Fin 5120) (h : g.val = 1024 * (t.val % 5) + l.val) :
    iblk m c 2 t (ix3 0 k l) = m ((c : Thread nD τ).loc main_arg2) (ix3 0 k g) := by
  blk_ext [iblk, V, idx t]

/-- At the first point of a run of five: the rows are normalised into the scratch and multiplied. -/
theorem outs_first (t : Fin cfg0.N) (h0 : t.val % 5 = 0) :
    outsAt0 m c t.val t.isLt =
      (k0_pay2 (k0_pay1 (iblk m c 0 t) (iblk m c 1 t)) (iblk m c 2 t), k0_pay1 (iblk m c 0 t) (iblk m c 1 t)) := by
  rw [outsAt0_A m c t h0]
  frame_out

/-- At a later point: the scratch is kept and multiplied. -/
theorem outs_next (t : Fin cfg0.N) (h0 : ¬t.val % 5 = 0) (h : t.val - 1 < cfg0.N) :
    outsAt0 m c t.val t.isLt =
      (k0_pay2 (outsAt0 m c (t.val - 1) h).2 (iblk m c 2 t), (outsAt0 m c (t.val - 1) h).2) := by
  rw [outsAt0_B m c t h0]
  frame_out
  simp only [read_unread_whole]
  rfl

/-- The input row of batch `b`, position `s`. -/
abbrev xRow (b : Fin 4) (s : Fin 2048) : Fin 2048 → EReal := fun k => m ((c : Thread nD τ).loc main_arg0) (ix3 b s k)
/-- The gain. -/
abbrev gain : Fin 2048 → EReal := fun k => m ((c : Thread nD τ).loc main_arg1) (ix2 0 k)
/-- The weights. -/
abbrev wcol : Fin 2048 → Fin 5120 → EReal := fun k g => m ((c : Thread nD τ).loc main_arg2) (ix3 0 k g)

/-- The scratch holds the normalised rows after every point. -/
theorem scratch_apply : ∀ (n : ℕ) (h : n < cfg0.N) (r : Fin 1024) (b : Fin 4) (s : Fin 2048), At n r b s →
    ∀ k : Fin 2048, (outsAt0 m c n h).2 (ix2 r k) = rms (xRow m c b s) (gain m c) k := by
  intro n
  induction n using Nat.strong_induction_on with
  | _ n ih =>
    intro h r b s hat k
    by_cases h0 : n % 5 = 0
    · rw [show outsAt0 m c n h = _ from outs_first m c ⟨n, h⟩ h0]
      dsimp only
      rw [show k0_pay1 (iblk m c 0 ⟨n, h⟩) (iblk m c 1 ⟨n, h⟩) (ix2 r k) = _ from
        Cert.FfnValue.pay2_apply (iblk m c 0 ⟨n, h⟩) (iblk m c 1 ⟨n, h⟩) r k]
      simp only [blk0 m c ⟨n, h⟩ r _ b s hat, blk1]
    · have hp : n - 1 < cfg0.N := Nat.lt_of_le_of_lt (Nat.sub_le _ _) h
      rw [show outsAt0 m c n h = _ from outs_next m c ⟨n, h⟩ h0 hp]
      exact ih (n - 1) (by omega) hp r b s (by unfold At at hat ⊢; omega) k

/-- Every point leaves the product of the scratch it leaves with its tile. -/
theorem outs_eq (t : Fin cfg0.N) : (outsAt0 m c t.val t.isLt).1 = k0_pay2 (outsAt0 m c t.val t.isLt).2 (iblk m c 2 t) := by
  by_cases h0 : t.val % 5 = 0
  · rw [outs_first m c t h0]
  · rw [outs_next m c t h0 (Nat.lt_of_le_of_lt (Nat.sub_le _ _) t.isLt)]

/-- The array the launch leaves, read at an index. -/
theorem final_apply (i : Fin 8192) (l : Fin 5120) (b : Fin 4) (s : Fin 2048) (hi : 2048 * b.val + s.val = i.val) :
    (G3 m c (ix2 i l) : EReal) = proj (xRow m c b s) (gain m c) (wcol m c) l := by
  have hi' := i.isLt
  have hl' := l.isLt
  have hp : pt3Of (ix2 i l) = 5 * (i.val / 1024) + l.val / 1024 := by
    show 5 * (i.val / 1024 - 0) + 1 * (l.val / 1024 - 0) = _
    omega
  have hlt : pt3Of (ix2 i l) < cfg0.N := by
    rw [hp, show cfg0.N = 40 from N_0]; omega
  unfold G3
  rw [dif_pos hlt, ← outsAt0_sweep (hn := hlt)]
  have hloc : loc3Of (ix2 i l) = ix2 ⟨i.val % 1024, Nat.mod_lt _ (by decide)⟩ ⟨l.val % 1024, Nat.mod_lt _ (by decide)⟩ := by
    funext a
    match a with
    | ⟨0, _⟩ => rfl
    | ⟨1, _⟩ => rfl
  have hat : At (pt3Of (ix2 i l)) ⟨i.val % 1024, Nat.mod_lt _ (by decide)⟩ b s := by
    unfold At; rw [hp]; simp only []; omega
  rw [hloc, show (outsAt0 m c (pt3Of (ix2 i l)) hlt).1 = _ from outs_eq m c ⟨_, hlt⟩, pay2_apply]
  unfold proj
  refine Finset.sum_congr (M := EReal) rfl fun k _ => ?_
  rw [blk2 m c ⟨pt3Of (ix2 i l), hlt⟩ k _ l (by simp only [hp]; omega), scratch_apply m c _ hlt _ b s hat k]

end Cert.ProjValue

end
-- ==== Proof.ProjClaim.lean ====
module

public import proofs.«01_k».proof.Proof.ProjKernel
public import proofs.«01_k».proof.Proof.Gen.ProjEvenRefIdeal.Read
public import proofs.«01_k».proof.Defs
public import Idealize.ShloMosaic.Lib.Quiescent

@[expose] public section

set_option maxRecDepth 16384

noncomputable section

namespace Cert.ProjValue

open Idealize.ShloMosaic Idealize.ShloMosaic.TcCoe Idealize.SL.Sem Cert.ProjEvenRefIdeal Cert.ProjEvenRefIdeal.Read
open Cert.FfnValue (rms)

variable (x0 : (⟨S4x2048x2048, .f32⟩ : BufTy).Contents (Elt Ideal)) (x1 : (⟨S2x2048, .f32⟩ : BufTy).Contents (Elt Ideal))
  (x2 : (⟨S1x2048x5120, .f32⟩ : BufTy).Contents (Elt Ideal))

/-- The reference's normalised rows. -/
theorem ref_xn (b : Fin 4) (s k : Fin 2048) :
    val_main_v14 x0 x1 (ix3 b s k) = rms (fun k => x0 (ix3 b s k)) (fun k => x1 (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, rms]

/-- The reference's result, read at an index. -/
theorem ref_apply (i : Fin 8192) (l : Fin 5120) (b : Fin 4) (s : Fin 2048) (hi : 2048 * b.val + s.val = i.val) :
    val_main_v17 x0 x1 x2 (ix2 i l) = proj (fun k => x0 (ix3 b s k)) (fun k => x1 (ix2 0 k)) (fun k g => x2 (ix3 0 k g)) l := by
  have hs := s.isLt
  have e1 : (⟨i.val / 2048, by have := i.isLt; omega⟩ : Fin 4) = b := Fin.ext (by simp only []; omega)
  have e2 : (⟨i.val % 2048, by omega⟩ : Fin 2048) = s := Fin.ext (by simp only []; omega)
  pointwise [val_main_v15, val_main_v16, val_main_v17, ref_xn, proj, e1, e2]

/-- Where the two programs' arguments agree, the array the launch leaves is the reference's result. -/
theorem result_eq (m : (ℓ : Loc Cert.ProjEvenIdeal.nD Cert.ProjEvenIdeal.τ Cert.ProjEvenIdeal.sig) → Buf (Elt Ideal) ℓ) (c : Dev Cert.ProjEvenIdeal.nD) :
    val_main_v17 (m (c.tc.loc Cert.ProjEvenIdeal.main_arg0)) (m (c.tc.loc Cert.ProjEvenIdeal.main_arg1))
      (m (c.tc.loc Cert.ProjEvenIdeal.main_arg2)) = Cert.ProjEvenIdeal.Value.G3 m c := by
  funext j
  obtain ⟨i, l, rfl⟩ : ∃ (i : Fin 8192) (l : Fin 5120), j = ix2 i l := ⟨j 0, j 1, eq_ix2 j⟩
  have hi := i.isLt
  have e : 2048 * (⟨i.val / 2048, by omega⟩ : Fin 4).val + (⟨i.val % 2048, by omega⟩ : Fin 2048).val = i.val := by
    simp only []; omega
  exact (ref_apply _ _ _ i l _ _ e).trans (final_apply m c i l _ _ e).symm

/-- The reference runs, leaves its arguments alone and ends with every counter at zero. -/
theorem frame_ref : Cert.quiescent_ProjEvenRefIdeal := fun m ρ _ =>
  (θ_run Cert.ProjEvenRefIdeal.defs _ _).mono (fun r h => ⟨fun c => (h c).2, sem_eq_zero_of_no_sems (by decide) r.2⟩)
    (Cert.ProjEvenRefIdeal.Value.run (F := Ideal) m ρ)

/-- The input projection's launch and its reference end with equal results. -/
theorem algebraic : Cert.algebraic_ProjEvenIdeal_ProjEvenRefIdeal := fun m g m' g' _ hagree =>
  ⟨fun c => Cert.ProjEvenIdeal.Value.G3 m c, Cert.ProjEvenIdeal.Value.run m g,
    (θ_run Cert.ProjEvenRefIdeal.defs _ _).mono (fun r h c => by
      refine ⟨(h c).1.trans ((Cert.ProjEvenRefIdeal.Read.val_main_v17_eq _ _ _).trans ?_), (h c).2⟩
      obtain ⟨h0, h1, h2⟩ := hagree c
      rw [h0, h1, h2]
      exact result_eq m c)
    (Cert.ProjEvenRefIdeal.Value.run (F := Ideal) m' g')⟩

end Cert.ProjValue

end
-- ==== Proof.GateRun.lean ====
module

public import proofs.«01_k».proof.Proof.Gen.ProjGateIdeal.Launch
public import proofs.«01_k».proof.Proof.Gen.ProjGateIdeal.Skeleton
public import proofs.«01_k».proof.Proof.Gen.ProjGateIdeal.Points
public import Idealize.ShloMosaic.Lib.Pipeline.FrameBody
public import Idealize.ShloMosaic.Lib.Pipeline.ValueKit
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.GateValue

open Cert.ProjGateIdeal Cert.ProjGateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates: the point is the first of its row of blocks. -/
abbrev isFirst (i : grid0.Coords) : Prop :=
  (Scalar.cmpi .ne (Scalar.extui (Scalar.cmpi .eq (BitVec.ofNat 32 (i 1).val) 0#32)) 0#32) = 1#1

/-- It holds at the even points. -/
theorem isFirst_iff : ∀ t : Fin cfg0.N, isFirst (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [isFirst, e0, e1]
    word_cmp
   : ∀ t : Fin grid0.N, isFirst (grid0.coords t) ↔ t.val % 2 = 0)

/-- One staging buffer of each output, through which its contents are stated. -/
abbrev outView : View sig .tc .vmem S1024x1024 .f32 := (Memref.whole cc0_stg3_0 : Memref sig .tc .vmem S1024x1024 .f32).view
abbrev xnView : View sig .tc .vmem S1024x2048 .bf16 := (Memref.whole cc0_stg4_0 : Memref sig .tc .vmem S1024x2048 .bf16).view

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S1x2048x1024 .bf16) (harg4 : arg4.IsWhole)
  (arg5 : Memref sig .tc .vmem S1024x1024 .f32) (harg5 : arg5.IsWhole)
  (arg6 : Memref sig .tc .vmem S1024x2048 .bf16) (harg6 : arg6.IsWhole)
  (x0 : Vec F S1024x2048 .f32) (x1 : Vec F S1x2048 .f32) (x2 : Vec F S1x2048x1024 .bf16)

set_option maxHeartbeats 1000000 in
/-- The body at the first point of a row: the pieces it stores into the product's block and into the block of
normalised rows, with the proof that it runs and leaves its inputs as they were. -/
noncomputable def runFirst (hc : isFirst i) :
    Σ' (L3 : List (View.Piece (Elt F) S1024x1024 .f32)), { L4 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0_norm_proj i arg2 harg2 arg3 harg3 arg4 harg4 arg5 harg5 arg6 harg6) K } := by
  refine ⟨?_, ?_, fun E K => ?run⟩
  case run =>
    simp only [cc0_norm_proj_eq_skeleton]; unfold cc0_norm_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1000000 in
/-- The body at the other point of a row: the normalised rows it finds are multiplied and kept. -/
noncomputable def runNext (hc : ¬isFirst i) (xn : Vec F S1024x2048 .bf16) :
    { L3 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xn
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xn) -∗ K ⟨⟩))
          ⊢ wp frame (wpE (defs₀ (F := F)) Variants.none c none) E (cc0_norm_proj i arg2 harg2 arg3 harg3 arg4 harg4 arg5 harg5 arg6 harg6) K } := by
  refine ⟨?_, fun E K => ?run⟩
  case run =>
    simp only [cc0_norm_proj_eq_skeleton]; unfold cc0_norm_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact H4

/-- The store covers the product's block, at the first point of a row. -/
theorem cover_first (hc : isFirst i) (y : S1024x1024.Idx) :
    ∃ pc ∈ (runFirst c i arg2 harg2 arg3 harg3 arg4 harg4 arg5 harg5 arg6 harg6 x0 x1 x2 hc).1, y ∈ pc.1.set :=
  View.cover_of_tiledL (runFirst c i arg2 harg2 arg3 harg3 arg4 harg4 arg5 harg5 arg6 harg6 x0 x1 x2 hc).1 S1024x1024.size (by sl_kernel_rfl) y

/-- The store covers the block of normalised rows. -/
theorem cover_xn (hc : isFirst i) (y : S1024x2048.Idx) :
    ∃ pc ∈ (runFirst c i arg2 harg2 arg3 harg3 arg4 harg4 arg5 harg5 arg6 harg6 x0 x1 x2 hc).2.1, y ∈ pc.1.set :=
  View.cover_of_tiledL (runFirst c i arg2 harg2 arg3 harg3 arg4 harg4 arg5 harg5 arg6 harg6 x0 x1 x2 hc).2.1 S1024x2048.size (by sl_kernel_rfl) y

/-- The store covers the product's block, at the other point of a row. -/
theorem cover_next (hc : ¬isFirst i) (xn : Vec F S1024x2048 .bf16) (y : S1024x1024.Idx) :
    ∃ pc ∈ (runNext c i arg2 harg2 arg3 harg3 arg4 harg4 arg5 harg5 arg6 harg6 x0 x1 x2 hc xn).1, y ∈ pc.1.set :=
  View.cover_of_tiledL (runNext c i arg2 harg2 arg3 harg3 arg4 harg4 arg5 harg5 arg6 harg6 x0 x1 x2 hc xn).1 S1024x1024.size (by sl_kernel_rfl) y

/-- What the first point of a row leaves: the product of the normalised rows, -/
theorem left_first (hc : isFirst i) {sp : Space} (v : View sig .tc sp S1024x1024 .f32) (f : v.ty.Contents (Elt F)) :
    v.read (Elt F) (v.writes (Elt F) f (runFirst c i arg2 harg2 arg3 harg3 arg4 harg4 arg5 harg5 arg6 harg6 x0 x1 x2 hc).1)
      = k0_pay2 (k0_pay1 x0 x1) x2 := by
  rw [View.read_writes_of_cover v f outView outView.junk _ (cover_first c i arg2 harg2 arg3 harg3 arg4 harg4 arg5 harg5 arg6 harg6 x0 x1 x2 hc)]
  frame_out

/-- and the normalised rows. -/
theorem left_xn (hc : isFirst i) {sp : Space} (v : View sig .tc sp S1024x2048 .bf16) (f : v.ty.Contents (Elt F)) :
    v.read (Elt F) (v.writes (Elt F) f (runFirst c i arg2 harg2 arg3 harg3 arg4 harg4 arg5 harg5 arg6 harg6 x0 x1 x2 hc).2.1)
      = k0_pay1 x0 x1 := by
  rw [View.read_writes_of_cover v f xnView xnView.junk _ (cover_xn c i arg2 harg2 arg3 harg3 arg4 harg4 arg5 harg5 arg6 harg6 x0 x1 x2 hc)]
  frame_out

/-- What the other point leaves: the product of the rows it found. -/
theorem left_next (hc : ¬isFirst i) (xn : Vec F S1024x2048 .bf16) {sp : Space} (v : View sig .tc sp S1024x1024 .f32) (f : v.ty.Contents (Elt F)) :
    v.read (Elt F) (v.writes (Elt F) f (runNext c i arg2 harg2 arg3 harg3 arg4 harg4 arg5 harg5 arg6 harg6 x0 x1 x2 hc xn).1)
      = k0_pay2 xn x2 := by
  rw [View.read_writes_of_cover v f outView outView.junk _ (cover_next c i arg2 harg2 arg3 harg3 arg4 harg4 arg5 harg5 arg6 harg6 x0 x1 x2 hc xn)]
  frame_out

end Cert.GateValue

end
-- ==== Proof.GateFrame.lean ====
module

public import proofs.«01_k».proof.Proof.GateRun
public import Idealize.ShloMosaic.Lib.Claim

@[expose] public section

set_option maxRecDepth 16384

noncomputable section

namespace Cert.GateValue

open Cert.ProjGateIdeal Cert.ProjGateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the grid is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations leave the arguments alone. -/
theorem V_arg (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

/-- The block window `w` reads at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point of the row of blocks that point `t` is in. -/
def first (t : Fin cfg0.N) : Fin cfg0.N := ⟨2 * (t.val / 2), by have := t.isLt; omega⟩

theorem first_even (t : Fin cfg0.N) (h : t.val % 2 = 0) : first t = t := Fin.ext (by simp only [first]; omega)

theorem first_odd (t t' : Fin cfg0.N) (h : ¬t.val % 2 = 0) (h' : t'.val = t.val - 1) : first t' = first t :=
  Fin.ext (by simp only [first]; omega)

/-- The normalised rows of the row of blocks that point `t` is in. -/
def xnAt (c : Dev nD) (t : Fin cfg0.N) : Vec F S1024x2048 .bf16 := k0_pay1 (iblk m c 0 (first t)) (iblk m c 1 (first t))

/-- What each point leaves: its inputs, the product of the normalised rows with its tile of weights, and the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (xnAt m c t) (iblk m c 2 t)
    | ⟨4, _⟩ => xnAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (xnAt m c t) (iblk m c 2 t) := by dsimp only [dats]
theorem after_4 (c : Dev nD) (t : Fin cfg0.N) : (dats m 0 c).after 4 t = xnAt m c t := by dsimp only [dats]

/-- Each input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl

/-- The block of normalised rows is stored at the first point of a row only. -/
theorem idle_even (t : Fin cfg0.N) (h : t.val % 2 = 0) : cfg0.idle 4 (cfg0.grid.coords t) = false := by
  show (!(k0_cond1 (grid0.coords t) == 1#1)) = false
  rw [Bool.not_eq_false', beq_iff_eq]
  exact (isFirst_iff t).mpr h

/-- At the other point of a row its buffer holds what the first left. -/
theorem before_4_odd (c : Dev nD) (t : Fin cfg0.N) (h : ¬t.val % 2 = 0) (d) : (dats m 0 c).before 4 t d = xnAt m c t := by
  have hlt : t.val - 1 < cfg0.N := Nat.lt_of_le_of_lt (Nat.sub_le _ _) t.isLt
  have hfl : (cfg0.win 4).flush ⟨t.val - 1, hlt⟩ = false :=
    Bool.eq_false_iff.mpr fun hf => by have := (flush0_4 _).mp hf; dsimp only at this; omega
  have hid : cfg0.idle 4 (cfg0.grid.coords ⟨t.val - 1, hlt⟩) = false := idle_even _ (by simp only []; omega)
  rw [(dats m 0 c).before_of_pos 4 t (by omega) ((cfg0.win 4).fetch_out rfl t), hfl, if_neg Bool.false_ne_true]
  unfold Dat.left
  rw [hid]
  dsimp only
  unfold Dat.kept
  rw [Pipeline.fill_of_clip_none 4 _ (fun _ => rfl) d ((dats m 0 c).after 4 ⟨t.val - 1, hlt⟩), Window.fill_cut, after_4]
  unfold xnAt
  rw [first_odd t ⟨t.val - 1, hlt⟩ h rfl]

/-- What is left in it, stored or found. -/
theorem leaves_4 (c : Dev nD) (t : Fin cfg0.N) :
    ((dats m 0 c).leavesExact 4 t : sProp 𝕄) = owns (c : Thread nD τ) (st0_4 t) fullShare (xnAt m c t) := by
  unfold Dat.leavesExact
  by_cases h : t.val % 2 = 0
  · rw [idle_even t h]
    dsimp only
    rw [after_4]
  · have hf : (cfg0.win 4).flush t = true := (flush0_4 t).mpr (by omega)
    rw [hf]
    cases cfg0.idle 4 (cfg0.grid.coords t) <;> dsimp only <;> rw [after_4]

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = (dats m 0 c).Φ t.castSucc from rfl, after_0, after_1, after_2, after_3, leaves_4]
  by_cases h : t.val % 2 = 0
  · iintro ⟨Hg, Ho, ⟨%d0, H0⟩, ⟨%d1, H1⟩, ⟨%d2, H2⟩, ⟨%d3, H3⟩, ⟨%d4, H4⟩⟩
    iapply ((runFirst c (grid0.coords t) _ _ _ _ _ _ _ _ _ _ (iblk m c 0 t) (iblk m c 1 t) (iblk m c 2 t) ((isFirst_iff t).mpr h)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [Hg]; · iexact Hg
    isplitl [Ho]; · iexact Ho
    isplitl [H0]; · iexact H0
    isplitl [H1]; · iexact H1
    isplitl [H2]; · iexact H2
    isplitl [H3]
    · unfold owns; iexists _; isplitr
      swap; · iexact H3
      ipureintro
      unfold xnAt; rw [first_even t h]
      exact left_first c _ _ _ _ _ _ _ _ _ _ _ _ _ _ _ _ _
    unfold owns; iexists _; isplitr
    swap; · iexact H4
    ipureintro
    unfold xnAt; rw [first_even t h]
    exact left_xn c _ _ _ _ _ _ _ _ _ _ _ _ _ _ _ _ _
  · simp only [before_4_odd m c t h]
    iintro ⟨Hg, Ho, ⟨%d0, H0⟩, ⟨%d1, H1⟩, ⟨%d2, H2⟩, ⟨%d3, H3⟩, ⟨%d4, H4⟩⟩
    iapply ((runNext c (grid0.coords t) _ _ _ _ _ _ _ _ _ _ (iblk m c 0 t) (iblk m c 1 t) (iblk m c 2 t) (fun hc => h ((isFirst_iff t).mp hc)) (xnAt m c t)).2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [Hg]; · iexact Hg
    isplitl [Ho]; · iexact Ho
    isplitl [H0]; · iexact H0
    isplitl [H1]; · iexact H1
    isplitl [H2]; · iexact H2
    isplitl [H3]
    · unfold owns; iexists _; isplitr
      swap; · iexact H3
      ipureintro
      exact left_next c _ _ _ _ _ _ _ _ _ _ _ _ _ _ _ _ _ _
    iexact H4

/-- The body's row of the table at a point is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it runs, each array ends at what the points left in it, and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- After the launch the arguments are as they were. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).2 main_arg0 (Pipeline.mem_restRefs_of main_arg0 (by decide) (by decide))).trans
      (V_arg m c _ (by decide) (by decide) (by decide) (by decide) (by decide)),
    ((h c).2 main_arg1 (Pipeline.mem_restRefs_of main_arg1 (by decide) (by decide))).trans
      (V_arg m c _ (by decide) (by decide) (by decide) (by decide) (by decide)),
    ((h c).2 main_arg2 (Pipeline.mem_restRefs_of main_arg2 (by decide) (by decide))).trans
      (V_arg m c _ (by decide) (by decide) (by decide) (by decide) (by decide))⟩

/-- The launch runs, leaves its arguments alone and ends with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => kept m r h.1 c, h.2⟩) (run_quiescent m ρ)

/-- The two arrays the launch leaves, the arguments unchanged. -/
theorem run_arrays : θ_run defs (onTc (τ := τ) (main (F := F))) ⟨m, fun _ => 0, ρ⟩ (fun r => ∀ c : Dev nD,
      r.2.mem ((c : Thread nD τ).loc main_v5_0) = (dats m 0 c).arrAt 3 cfg0.N
      ∧ r.2.mem ((c : Thread nD τ).loc main_v5_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1 c).1 3, (h.1 c).1 4, kept m r h.1 c⟩) (run_quiescent m ρ)

end Cert.GateValue

end
-- ==== Proof.GateClaim.lean ====
module

public import proofs.«01_k».proof.Proof.GateFrame
public import proofs.«01_k».proof.Proof.FfnPay
public import proofs.«01_k».proof.Proof.Gen.ProjGate
public import proofs.«01_k».proof.Proof.Gen.ProjGateRefIdeal.Read
public import proofs.«01_k».proof.Defs
public import Idealize.ShloMosaic.Lib.Pointwise
public import Idealize.ShloMosaic.Lib.Quiescent

@[expose] public section

set_option maxRecDepth 16384

noncomputable section

/-! The gate's projection: the two arrays the launch leaves are the reference's results. -/

namespace Cert.GateValue

open Idealize.ShloMosaic Idealize.ShloMosaic.TcCoe Idealize.SL.Sem
open Cert.FfnValue (rms)

/-- One entry of a row's gate: the normalised row against a column of the last fifth of the weights. -/
def gate (x gain : Fin 2048 → EReal) (w : Fin 2048 → Fin 10240 → EReal) (l : Fin 2048) : EReal :=
  ∑ k : Fin 2048, rms x gain k * w k ⟨8192 + l.val, by omega⟩

section
open Cert.ProjGateIdeal Cert.ProjGateIdeal.Gen

/-- The product of a block of rows with a tile of weights, read at an index. -/
theorem pay2_apply (xn : Vec Ideal S1024x2048 .bf16) (w : Vec Ideal S1x2048x1024 .bf16) (r l : Fin 1024) :
    k0_pay2 xn w (ix2 r l) = ∑ k : Fin 2048, xn (ix2 r k) * w (ix3 0 k l) := by
  pointwise [k0_pay2]

/-- The normalised rows of a block, read at an index. -/
theorem pay1_apply (x : Vec Ideal S1024x2048 .f32) (g : Vec Ideal S1x2048 .f32) (r : Fin 1024) (k : Fin 2048) :
    k0_pay1 x g (ix2 r k) = rms (fun k => x (ix2 r k)) (fun k => g (ix2 0 k)) k := by
  pointwise [k0_pay1, rms]

variable (m : (ℓ : Loc nD τ sig) → Buf (Elt Ideal) ℓ) (c : Dev nD)

/-- The block each window reads or writes at a grid point. -/
theorem idx : ∀ t : Fin cfg0.N, win0_0.index t = ![t.val / 2, 0] ∧ win0_1.index t = ![0, 0]
    ∧ win0_2.index t = ![0, 0, 8 + t.val % 2] ∧ win0_3.index t = ![t.val / 2, t.val % 2] ∧ win0_4.index t = ![t.val / 2, 0]
    ∧ t.val < 16 :=
  (by decide +kernel : ∀ t : Fin grid0.N, _)

/-- The row of the point's block that stands at batch `b`, position `s`. -/
def At (n : ℕ) (r : Fin 1024) (b : Fin 4) (s : Fin 2048) : Prop := 2048 * b.val + s.val = 1024 * (n / 2) + r.val

/-- The block of input rows at a point, read in the argument. -/
theorem blk0 (t : Fin cfg0.N) (r : Fin 1024) (k : Fin 2048) (b : Fin 4) (s : Fin 2048) (h : At t.val r b s) :
    iblk m c 0 t (ix2 r k) = m ((c : Thread nD τ).loc main_arg0) (ix3 b s k) := by
  have hb := b.isLt
  have hs := s.isLt
  unfold At at h
  have e : iblk m c 0 t (ix2 r k) = V m c main_v0 (ix2 ⟨1024 * (t.val / 2) + r.val, by omega⟩ k) := by blk_ext [iblk, idx t]
  rw [e]
  entry_read
  pointwise
  blk_ext

/-- The gain. -/
theorem blk1 (t : Fin cfg0.N) (k : Fin 2048) :
    iblk m c 1 t (ix2 0 k) = m ((c : Thread nD τ).loc main_arg1) (ix2 1 k) := by
  have e : iblk m c 1 t (ix2 0 k) = V m c main_v4 (ix2 0 k) := by blk_ext [iblk, idx t]
  rw [e]
  entry_read
  pointwise
  blk_ext

/-- A tile of the weights. -/
theorem blk2 (t : Fin cfg0.N) (k : Fin 2048) (l : Fin 1024) (g : Fin 10240) (h : g.val = 1024 * (8 + t.val % 2) + l.val) :
    iblk m c 2 t (ix3 0 k l) = m ((c : Thread nD τ).loc main_arg2) (ix3 0 k g) := by
  blk_ext [iblk, V, idx t]

/-- The input row of batch `b`, position `s`. -/
abbrev xRow (b : Fin 4) (s : Fin 2048) : Fin 2048 → EReal := fun k => m ((c : Thread nD τ).loc main_arg0) (ix3 b s k)
/-- The gain. -/
abbrev gain : Fin 2048 → EReal := fun k => m ((c : Thread nD τ).loc main_arg1) (ix2 1 k)
/-- The weights. -/
abbrev wcol : Fin 2048 → Fin 10240 → EReal := fun k g => m ((c : Thread nD τ).loc main_arg2) (ix3 0 k g)

/-- The normalised rows at a point, read at an index. -/
theorem xnAt_apply (t : Fin cfg0.N) (r : Fin 1024) (b : Fin 4) (s : Fin 2048) (h : At t.val r b s) (k : Fin 2048) :
    xnAt m c t (ix2 r k) = rms (xRow m c b s) (gain m c) k := by
  have hf : (first t).val = 2 * (t.val / 2) := rfl
  have h' : At (first t).val r b s := by
    unfold At at h ⊢
    omega
  unfold xnAt
  rw [pay1_apply, funext fun k => blk0 m c (first t) r k b s h', funext fun k => blk1 m c (first t) k]

/-- The product a point leaves, read at an index. -/
theorem out_apply (t : Fin cfg0.N) (r l : Fin 1024) (b : Fin 4) (s : Fin 2048) (h : At t.val r b s) (g : Fin 2048)
    (hg : g.val = 1024 * (t.val % 2) + l.val) :
    k0_pay2 (xnAt m c t) (iblk m c 2 t) (ix2 r l) = gate (xRow m c b s) (gain m c) (wcol m c) g := by
  rw [pay2_apply]
  unfold gate
  refine Finset.sum_congr (M := EReal) rfl fun k _ => ?_
  rw [xnAt_apply m c t r b s h k, blk2 m c t k l ⟨8192 + g.val, by omega⟩ (by simp only []; omega)]

end

section
open Cert.ProjGateRefIdeal Cert.ProjGateRefIdeal.Read

variable (x0 : (⟨S4x2048x2048, .f32⟩ : BufTy).Contents (Elt Ideal)) (x1 : (⟨S2x2048, .f32⟩ : BufTy).Contents (Elt Ideal))
  (x2 : (⟨S1x2048x10240, .f32⟩ : BufTy).Contents (Elt Ideal))

/-- The reference's normalised rows. -/
theorem ref_xn (b : Fin 4) (s k : Fin 2048) :
    val_main_v14 x0 x1 (ix3 b s k) = rms (fun k => x0 (ix3 b s k)) (fun k => x1 (ix2 1 k)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, rms]

/-- The reference's gate, read at an index. -/
theorem ref_gate (i : Fin 8192) (l : Fin 2048) (b : Fin 4) (s : Fin 2048) (hi : 2048 * b.val + s.val = i.val) :
    val_main_v18 x0 x1 x2 (ix2 i l) = gate (fun k => x0 (ix3 b s k)) (fun k => x1 (ix2 1 k)) (fun k g => x2 (ix3 0 k g)) l := by
  have hs := s.isLt
  have e1 : (⟨i.val / 2048, by have := i.isLt; omega⟩ : Fin 4) = b := Fin.ext (by simp only []; omega)
  have e2 : (⟨i.val % 2048, by omega⟩ : Fin 2048) = s := Fin.ext (by simp only []; omega)
  pointwise [val_main_v15, val_main_v16, val_main_v17, val_main_v18, ref_xn, gate, e1, e2]

/-- The reference's normalised rows as one array, read at an index. -/
theorem ref_rows (i : Fin 8192) (k : Fin 2048) (b : Fin 4) (s : Fin 2048) (hi : 2048 * b.val + s.val = i.val) :
    val_main_v20 x0 x1 (ix2 i k) = rms (fun k => x0 (ix3 b s k)) (fun k => x1 (ix2 1 k)) k := by
  have hs := s.isLt
  have e1 : (⟨i.val / 2048, by have := i.isLt; omega⟩ : Fin 4) = b := Fin.ext (by simp only []; omega)
  have e2 : (⟨i.val % 2048, by omega⟩ : Fin 2048) = s := Fin.ext (by simp only []; omega)
  pointwise [val_main_v19, val_main_v20, ref_xn, e1, e2]

end

open Cert.ProjGateIdeal Cert.ProjGateIdeal.Gen

/-- The first array the launch leaves is the reference's gate. -/
theorem array_gate (m : (ℓ : Loc nD τ sig) → Buf (Elt Ideal) ℓ) (c : Dev nD) :
    (dats m 0 c).arrAt 3 cfg0.N = Cert.ProjGateRefIdeal.Read.val_main_v18 (F := Ideal) (m (c.tc.loc main_arg0))
      (m (c.tc.loc main_arg1)) (m (c.tc.loc main_arg2)) := by
  refine (dats m 0 c).arrAt_eq_of_covers 3 _ (by decide +kernel) fun t hf y => ?_
  blk_simp
  rw [after_3]
  obtain ⟨r, l, rfl⟩ : ∃ (r l : Fin 1024), y = ix2 r l := ⟨y 0, y 1, eq_ix2 y⟩
  have ht := (idx t).2.2.2.2.2
  have hr := r.isLt
  have hl := l.isLt
  have hat : At t.val r ⟨(1024 * (t.val / 2) + r.val) / 2048, by omega⟩ ⟨(1024 * (t.val / 2) + r.val) % 2048, Nat.mod_lt _ (by decide)⟩ := by
    unfold At; simp only []; omega
  refine (out_apply m c t r l _ _ hat ⟨1024 * (t.val % 2) + l.val, by omega⟩ rfl).trans ?_
  refine (ref_gate _ _ _ ⟨1024 * (t.val / 2) + r.val, by omega⟩ ⟨1024 * (t.val % 2) + l.val, by omega⟩ _ _ (by unfold At at hat; exact hat)).symm.trans ?_
  blk_ext [idx t]

/-- The second array the launch leaves is the reference's normalised rows. -/
theorem array_rows (m : (ℓ : Loc nD τ sig) → Buf (Elt Ideal) ℓ) (c : Dev nD) :
    (dats m 0 c).arrAt 4 cfg0.N = Cert.ProjGateRefIdeal.Read.val_main_v20 (F := Ideal) (m (c.tc.loc main_arg0))
      (m (c.tc.loc main_arg1)) := by
  refine (dats m 0 c).arrAt_eq_of_covers 4 _ (by decide +kernel) fun t hf y => ?_
  blk_simp
  rw [after_4]
  obtain ⟨r, l, rfl⟩ : ∃ (r : Fin 1024) (l : Fin 2048), y = ix2 r l := ⟨y 0, y 1, eq_ix2 y⟩
  have ht := (idx t).2.2.2.2.2
  have hr := r.isLt
  have hat : At t.val r ⟨(1024 * (t.val / 2) + r.val) / 2048, by omega⟩ ⟨(1024 * (t.val / 2) + r.val) % 2048, Nat.mod_lt _ (by decide)⟩ := by
    unfold At; simp only []; omega
  refine (xnAt_apply m c t r _ _ hat l).trans ?_
  refine (ref_rows _ _ ⟨1024 * (t.val / 2) + r.val, by omega⟩ l _ _ (by unfold At at hat; exact hat)).symm.trans ?_
  blk_ext [idx t]

/-- The kernel's own program and its idealization have the same table of bodies. -/
theorem defs₀_eq : Cert.ProjGate.defs₀ (F := Bits) = Cert.ProjGateIdeal.defs₀ (F := Bits) := by
  unfold Cert.ProjGate.defs₀ Cert.ProjGateIdeal.defs₀
  refine congrArg Defs.onTc (funext fun l => funext fun x => ?_)
  match l, x with
  | 0, (t, s) => rfl

/-- The same of the whole table. -/
theorem defs_eq : Cert.ProjGate.defs (F := Bits) = Cert.ProjGateIdeal.defs (F := Bits) :=
  congrArg (Pipeline.defs Cert.ProjGate.pcfgs) defs₀_eq

/-- The kernel's own program runs as its idealization does, leaves its arguments alone and ends with every counter
at zero. -/
theorem frame_gate : Cert.quiescent_ProjGate := fun m ρ _ => by
  rw [defs_eq]
  exact frame (F := Bits) m ρ

/-- The reference runs, leaves its arguments alone and ends with every counter at zero. -/
theorem frame_ref : Cert.quiescent_ProjGateRefIdeal := fun m ρ _ =>
  (θ_run Cert.ProjGateRefIdeal.defs _ _).mono (fun r h => ⟨fun c => (h c).2.2, sem_eq_zero_of_no_sems (by decide) r.2⟩)
    (Cert.ProjGateRefIdeal.Value.run (F := Ideal) m ρ)

/-- The gate's launch and its reference end with equal results. -/
theorem algebraic : Cert.algebraic_ProjGateIdeal_ProjGateRefIdeal := fun m g m' g' _ hagree =>
  ⟨fun c => (dats m 0 c).arrAt 3 cfg0.N, fun c => (dats m 0 c).arrAt 4 cfg0.N, run_arrays m g,
    (θ_run Cert.ProjGateRefIdeal.defs _ _).mono (fun r h c => by
      obtain ⟨h0, h1, h2⟩ := hagree c
      obtain ⟨r0, r1, rest⟩ := h c
      refine ⟨r0.trans ((Cert.ProjGateRefIdeal.Read.val_main_v18_eq _ _ _).trans ?_),
        r1.trans ((Cert.ProjGateRefIdeal.Read.val_main_v20_eq _ _).trans ?_), rest⟩
      · rw [h0, h1, h2]
        exact (array_gate m c).symm
      · rw [h0, h1]
        exact (array_rows m c).symm)
    (Cert.ProjGateRefIdeal.Value.run (F := Ideal) m' g')⟩

end Cert.GateValue

end
-- ==== Proof.OutEvenClaim.lean ====
module

public import proofs.«01_k».proof.Proof.Gen.OutEvenIdeal.Value
public import proofs.«01_k».proof.Proof.Gen.OutEvenRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

/-! The output projection of the first layer. -/

namespace Cert.OutEvenValue

open Idealize.ShloMosaic Idealize.ShloMosaic.TcCoe Idealize.SL.Sem

/-- One entry of the output projection: the residual plus the two mixers' rows against the two halves of a column. -/
def entry (a b : Fin 1024 → EReal) (w : Fin 2048 → EReal) (x : EReal) : EReal :=
  x + (∑ k : Fin 1024, a k * w ⟨k.val, by omega⟩ + ∑ k : Fin 1024, b k * w ⟨1024 + k.val, by omega⟩)

section
open Cert.OutEvenIdeal Cert.OutEvenIdeal.Gen

variable (m : (ℓ : Loc nD τ sig) → Buf (Elt Ideal) ℓ) (c : Dev nD)

/-- What a point computes, read at an index. -/
theorem out_apply (x0 x1 : Vec Ideal S512x1024 .bf16) (x2 : Vec Ideal S1x2048x2048 .bf16) (x3 : Vec Ideal S512x2048 .f32)
    (r : Fin 512) (l : Fin 2048) :
    out0_4 x0 x1 x2 x3 (ix2 r l) = entry (fun k => x0 (ix2 r k)) (fun k => x1 (ix2 r k)) (fun k => x2 (ix3 0 k l)) (x3 (ix2 r l)) := by
  unfold out0_4
  canon_tiles
  pointwise [k0_pay1, entry]
  obtain rfl : r = x 0 := Fin.ext h0
  obtain rfl : l = x 1 := Fin.ext h1
  rw [← eq_ix2 x]

/-- The block each window reads or writes at a grid point. -/
theorem idx : ∀ t : Fin cfg0.N, win0_0.index t = ![t.val, 0] ∧ win0_1.index t = ![t.val, 0]
    ∧ win0_2.index t = ![0, 0, 0] ∧ win0_3.index t = ![t.val, 0] ∧ win0_4.index t = ![t.val, 0] ∧ t.val < 16 :=
  (by decide +kernel : ∀ t : Fin grid0.N, _)

/-- The row of the point's block that stands at batch `b`, position `s`. -/
def At (n : ℕ) (r : Fin 512) (b : Fin 4) (s : Fin 2048) : Prop := 2048 * b.val + s.val = 512 * n + r.val

/-- The block of the first mixer's rows, read in the argument. -/
theorem blk0 (t : Fin cfg0.N) (r : Fin 512) (k : Fin 1024) (b : Fin 4) (s : Fin 2048) (h : At t.val r b s) :
    iblk m c 0 t (ix2 r k) = m ((c : Thread nD τ).loc main_arg0) (ix3 b s k) := by
  have hb := b.isLt
  have hs := s.isLt
  unfold At at h
  have e : iblk m c 0 t (ix2 r k) = V m c main_v0 (ix2 ⟨512 * t.val + r.val, by omega⟩ k) := by blk_ext [iblk, idx t]
  rw [e]
  entry_read
  pointwise
  blk_ext

/-- The block of the second mixer's rows, read in the argument. -/
theorem blk1 (t : Fin cfg0.N) (r : Fin 512) (k : Fin 1024) (b : Fin 4) (s : Fin 2048) (h : At t.val r b s) :
    iblk m c 1 t (ix2 r k) = m ((c : Thread nD τ).loc main_arg1) (ix3 b s k) := by
  have hb := b.isLt
  have hs := s.isLt
  unfold At at h
  have e : iblk m c 1 t (ix2 r k) = V m c main_v1 (ix2 ⟨512 * t.val + r.val, by omega⟩ k) := by blk_ext [iblk, idx t]
  rw [e]
  entry_read
  pointwise
  blk_ext

/-- The weights. -/
theorem blk2 (t : Fin cfg0.N) (k l : Fin 2048) :
    iblk m c 2 t (ix3 0 k l) = m ((c : Thread nD τ).loc main_arg2) (ix3 0 k l) := by
  blk_ext [iblk, V, idx t]

/-- The block of the residual's rows, read in the argument. -/
theorem blk3 (t : Fin cfg0.N) (r : Fin 512) (k : Fin 2048) (b : Fin 4) (s : Fin 2048) (h : At t.val r b s) :
    iblk m c 3 t (ix2 r k) = m ((c : Thread nD τ).loc main_arg3) (ix3 b s k) := by
  have hb := b.isLt
  have hs := s.isLt
  unfold At at h
  have e : iblk m c 3 t (ix2 r k) = V m c main_v3 (ix2 ⟨512 * t.val + r.val, by omega⟩ k) := by blk_ext [iblk, idx t]
  rw [e]
  entry_read
  pointwise
  blk_ext

end

section
open Cert.OutEvenRefIdeal Cert.OutEvenRefIdeal.Read

variable (x0 x1 : (⟨S4x2048x1024, .bf16⟩ : BufTy).Contents (Elt Ideal)) (x2 : (⟨S1x2048x2048, .f32⟩ : BufTy).Contents (Elt Ideal))
  (x3 : (⟨S4x2048x2048, .f32⟩ : BufTy).Contents (Elt Ideal))

/-- The first half of the concatenated row is the first mixer's. -/
theorem ref_lo (b : Fin 4) (s : Fin 2048) (k : Fin 1024) :
    val_main_v0 x0 x1 (ix3 b s ⟨k.val, by omega⟩) = x0 (ix3 b s k) := by
  have hk := k.isLt
  pointwise [val_main_v0]

/-- The second half of the concatenated row is the second mixer's. -/
theorem ref_hi (b : Fin 4) (s : Fin 2048) (k : Fin 1024) :
    val_main_v0 x0 x1 (ix3 b s ⟨1024 + k.val, by omega⟩) = x1 (ix3 b s k) := by
  have hk := k.isLt
  pointwise [val_main_v0]

/-- The reference's sum over the concatenated row, in two halves. -/
theorem ref_row (b : Fin 4) (s l : Fin 2048) :
    val_main_v4 x0 x1 x2 x3 (ix3 b s l) = entry (fun k => x0 (ix3 b s k)) (fun k => x1 (ix3 b s k)) (fun k => x2 (ix3 0 k l)) (x3 (ix3 b s l)) := by
  have e : val_main_v4 x0 x1 x2 x3 (ix3 b s l) = x3 (ix3 b s l) + ∑ k : Fin 2048, val_main_v0 x0 x1 (ix3 b s k) * x2 (ix3 0 k l) := by
    pointwise [val_main_v1, val_main_v2, val_main_v3, val_main_v4]
  rw [e]
  unfold entry
  congr 1
  refine (Fin.sum_univ_add (a := 1024) (b := 1024) (fun k => val_main_v0 x0 x1 (ix3 b s k) * x2 (ix3 0 k l))).trans ?_
  congr 1
  · exact Finset.sum_congr rfl fun k _ => congrArg (· * _) (ref_lo x0 x1 b s k)
  · exact Finset.sum_congr rfl fun k _ => congrArg (· * _) (ref_hi x0 x1 b s k)

/-- The reference's result, read at an index. -/
theorem ref_apply (i : Fin 8192) (l : Fin 2048) (b : Fin 4) (s : Fin 2048) (hi : 2048 * b.val + s.val = i.val) :
    val_main_v5 x0 x1 x2 x3 (ix2 i l) = entry (fun k => x0 (ix3 b s k)) (fun k => x1 (ix3 b s k)) (fun k => x2 (ix3 0 k l)) (x3 (ix3 b s l)) := by
  have hs := s.isLt
  have e1 : (⟨i.val / 2048, by have := i.isLt; omega⟩ : Fin 4) = b := Fin.ext (by simp only []; omega)
  have e2 : (⟨i.val % 2048, by omega⟩ : Fin 2048) = s := Fin.ext (by simp only []; omega)
  rw [← ref_row]
  pointwise [val_main_v5, e1, e2]

end

open Cert.OutEvenIdeal Cert.OutEvenIdeal.Gen

/-- The array the launch leaves is the reference's result of the same arguments. -/
theorem array_eq (m : (ℓ : Loc nD τ sig) → Buf (Elt Ideal) ℓ) (c : Dev nD) :
    (dats m 0 c).arrAt 4 cfg0.N = Cert.OutEvenRefIdeal.Read.val_main_v5 (F := Ideal) (m (c.tc.loc main_arg0))
      (m (c.tc.loc main_arg1)) (m (c.tc.loc main_arg2)) (m (c.tc.loc main_arg3)) := by
  refine (dats m 0 c).arrAt_eq_of_covers 4 _ (by decide +kernel) fun t hf y => ?_
  blk_simp
  rw [after0_4]
  obtain ⟨r, l, rfl⟩ : ∃ (r : Fin 512) (l : Fin 2048), y = ix2 r l := ⟨y 0, y 1, eq_ix2 y⟩
  have ht := (idx t).2.2.2.2.2
  have hr := r.isLt
  have hat : At t.val r ⟨(512 * t.val + r.val) / 2048, by omega⟩ ⟨(512 * t.val + r.val) % 2048, Nat.mod_lt _ (by decide)⟩ := by
    unfold At; simp only []; omega
  refine (out_apply _ _ _ _ r l).trans ?_
  simp only [blk0 m c t r _ _ _ hat, blk1 m c t r _ _ _ hat, blk2, blk3 m c t r _ _ _ hat]
  refine (ref_apply _ _ _ _ ⟨512 * t.val + r.val, by omega⟩ l _ _ (by unfold At at hat; exact hat)).symm.trans ?_
  blk_ext [idx t]

/-- The reference runs, leaves its arguments alone and ends with every counter at zero. -/
theorem frame_ref : Cert.quiescent_OutEvenRefIdeal := fun m ρ _ =>
  (θ_run Cert.OutEvenRefIdeal.defs _ _).mono (fun r h => ⟨fun c => (h c).2, sem_eq_zero_of_no_sems (by decide) r.2⟩)
    (Cert.OutEvenRefIdeal.Value.run (F := Ideal) m ρ)

/-- The output projection's launch and its reference end with equal results. -/
theorem algebraic : Cert.algebraic_OutEvenIdeal_OutEvenRefIdeal := fun m g m' g' _ hagree =>
  ⟨fun c => (dats m 0 c).arrAt 4 cfg0.N, Cert.OutEvenIdeal.Value.run_blocks m g,
    (θ_run Cert.OutEvenRefIdeal.defs _ _).mono (fun r h c => by
      refine ⟨(h c).1.trans ((Cert.OutEvenRefIdeal.Read.val_main_v5_eq _ _ _ _).trans ?_), (h c).2⟩
      obtain ⟨h0, h1, h2, h3⟩ := hagree c
      rw [h0, h1, h2, h3]
      exact (array_eq m c).symm)
    (Cert.OutEvenRefIdeal.Value.run (F := Ideal) m' g')⟩

end Cert.OutEvenValue

end
-- ==== Proof.OutOddClaim.lean ====
module

public import proofs.«01_k».proof.Proof.FfnPay
public import proofs.«01_k».proof.Proof.Gen.OutOddIdeal.Value
public import proofs.«01_k».proof.Proof.Gen.OutOddRefIdeal.Read
public import proofs.«01_k».proof.Defs
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384

noncomputable section

/-! The gated output projection of the second layer. -/

namespace Cert.OutOddValue

open Idealize.ShloMosaic Idealize.ShloMosaic.TcCoe Idealize.SL.Sem
open Cert.FfnValue (rms act)

/-- One entry of the gated output projection: the residual plus the normalised, gated row against a column. -/
def entry (o gate gain w : Fin 2048 → EReal) (h : EReal) : EReal :=
  h + ∑ k : Fin 2048, rms o gain k * act (gate k) * w k

section
open Cert.OutOddIdeal Cert.OutOddIdeal.Gen

variable (m : (ℓ : Loc nD τ sig) → Buf (Elt Ideal) ℓ) (c : Dev nD)

/-- The normalised, gated block, read at an index. -/
theorem pay1_apply (g o : Vec Ideal S512x2048 .f32) (n : Vec Ideal S1x2048 .f32) (r : Fin 512) (l : Fin 2048) :
    k0_pay1 g o n (ix2 r l) = rms (fun k => o (ix2 r k)) (fun k => n (ix2 0 k)) l * act (g (ix2 r l)) := by
  pointwise [k0_pay1, rms, act]
  simp only [zero_sub]

/-- The product added to the residual, read at an index. -/
theorem pay2_apply (h : Vec Ideal S512x2048 .f32) (y : Vec Ideal S512x2048 .bf16) (w : Vec Ideal S1x2048x2048 .bf16) (r : Fin 512) (l : Fin 2048) :
    k0_pay2 h y w (ix2 r l) = h (ix2 r l) + ∑ k : Fin 2048, y (ix2 r k) * w (ix3 0 k l) := by
  pointwise [k0_pay2]

/-- What a point leaves, as the payloads of its blocks. -/
theorem outs_eq (t : Fin cfg0.N) :
    outsAt0 m c t = k0_pay2 (iblk m c 4 t) (k0_pay1 (iblk m c 1 t) (iblk m c 0 t) (iblk m c 2 t)) (iblk m c 3 t) := by
  unfold outsAt0
  frame_open
  frame_out

/-- The block each window reads or writes at a grid point. -/
theorem idx : ∀ t : Fin cfg0.N, win0_0.index t = ![t.val, 0] ∧ win0_1.index t = ![t.val, 0]
    ∧ win0_2.index t = ![0, 0] ∧ win0_3.index t = ![0, 0, 0] ∧ win0_4.index t = ![t.val, 0] ∧ win0_5.index t = ![t.val, 0] ∧ t.val < 16 :=
  (by decide +kernel : ∀ t : Fin grid0.N, _)

/-- The row of the point's block that stands at batch `b`, position `s`. -/
def At (n : ℕ) (r : Fin 512) (b : Fin 4) (s : Fin 2048) : Prop := 2048 * b.val + s.val = 512 * n + r.val

/-- The block of the scan's rows, read in the argument. -/
theorem blk0 (t : Fin cfg0.N) (r : Fin 512) (k : Fin 2048) (b : Fin 4) (s : Fin 2048) (h : At t.val r b s) :
    iblk m c 0 t (ix2 r k) = m ((c : Thread nD τ).loc main_arg0) (ix3 b s k) := by
  have hb := b.isLt
  have hs := s.isLt
  unfold At at h
  have e : iblk m c 0 t (ix2 r k) = V m c main_v0 (ix2 ⟨512 * t.val + r.val, by omega⟩ k) := by blk_ext [iblk, idx t]
  rw [e]
  entry_read
  pointwise
  blk_ext

/-- The block of the gate's rows, read in the argument. -/
theorem blk1 (t : Fin cfg0.N) (r : Fin 512) (k : Fin 2048) (b : Fin 4) (s : Fin 2048) (h : At t.val r b s) :
    iblk m c 1 t (ix2 r k) = m ((c : Thread nD τ).loc main_arg1) (ix3 b s k) := by
  have hb := b.isLt
  have hs := s.isLt
  unfold At at h
  have e : iblk m c 1 t (ix2 r k) = V m c main_v1 (ix2 ⟨512 * t.val + r.val, by omega⟩ k) := by blk_ext [iblk, idx t]
  rw [e]
  entry_read
  pointwise
  blk_ext

/-- The gain. -/
theorem blk2 (t : Fin cfg0.N) (k : Fin 2048) :
    iblk m c 2 t (ix2 0 k) = m ((c : Thread nD τ).loc main_arg2) (ix2 0 k) := by
  have e : iblk m c 2 t (ix2 0 k) = V m c main_v5 (ix2 0 k) := by blk_ext [iblk, idx t]
  rw [e]
  entry_read
  pointwise
  blk_ext

/-- The weights. -/
theorem blk3 (t : Fin cfg0.N) (k l : Fin 2048) :
    iblk m c 3 t (ix3 0 k l) = m ((c : Thread nD τ).loc main_arg3) (ix3 0 k l) := by
  blk_ext [iblk, V, idx t]

/-- The block of the residual's rows, read in the argument. -/
theorem blk4 (t : Fin cfg0.N) (r : Fin 512) (k : Fin 2048) (b : Fin 4) (s : Fin 2048) (h : At t.val r b s) :
    iblk m c 4 t (ix2 r k) = m ((c : Thread nD τ).loc main_arg4) (ix3 b s k) := by
  have hb := b.isLt
  have hs := s.isLt
  unfold At at h
  have e : iblk m c 4 t (ix2 r k) = V m c main_v4 (ix2 ⟨512 * t.val + r.val, by omega⟩ k) := by blk_ext [iblk, idx t]
  rw [e]
  entry_read
  pointwise
  blk_ext

/-- What a point leaves, read at an index. -/
theorem outs_apply (t : Fin cfg0.N) (r : Fin 512) (l : Fin 2048) (b : Fin 4) (s : Fin 2048) (h : At t.val r b s) :
    (outsAt0 m c t (ix2 r l) : EReal) = entry (fun k => m ((c : Thread nD τ).loc main_arg0) (ix3 b s k)) (fun k => m ((c : Thread nD τ).loc main_arg1) (ix3 b s k))
      (fun k => m ((c : Thread nD τ).loc main_arg2) (ix2 0 k)) (fun k => m ((c : Thread nD τ).loc main_arg3) (ix3 0 k l))
      (m ((c : Thread nD τ).loc main_arg4) (ix3 b s l)) := by
  rw [outs_eq, pay2_apply]
  simp only [pay1_apply, blk0 m c t r _ b s h, blk1 m c t r _ b s h, blk2, blk3, blk4 m c t r _ b s h]
  rfl

end

section
open Cert.OutOddRefIdeal Cert.OutOddRefIdeal.Read

variable (x0 x1 : (⟨S4x2048x2048, .f32⟩ : BufTy).Contents (Elt Ideal)) (x2 : (⟨S1x2048, .f32⟩ : BufTy).Contents (Elt Ideal))
  (x3 : (⟨S1x2048x2048, .f32⟩ : BufTy).Contents (Elt Ideal)) (x4 : (⟨S4x2048x2048, .f32⟩ : BufTy).Contents (Elt Ideal))

/-- The reference's normalised rows. -/
theorem ref_norm (b : Fin 4) (s k : Fin 2048) :
    val_main_v13 x0 x2 (ix3 b s k) = rms (fun k => x0 (ix3 b s k)) (fun k => x2 (ix2 0 k)) k := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1, rms]

/-- The reference's gated rows. -/
theorem ref_gated (b : Fin 4) (s k : Fin 2048) :
    val_main_v15 x0 x1 x2 (ix3 b s k) = rms (fun k => x0 (ix3 b s k)) (fun k => x2 (ix2 0 k)) k * act (x1 (ix3 b s k)) := by
  pointwise [val_main_v14, val_main_v15, val_main_call0_v0, val_main_call0_v1, val_main_call0_v2, val_main_call0_v3, val_main_call0_v4, val_main_call0_v5, val_main_call0_cst, val_main_call0_cst_0, ref_norm, act]

/-- The reference's result, read at an index. -/
theorem ref_apply (i : Fin 8192) (l : Fin 2048) (b : Fin 4) (s : Fin 2048) (hi : 2048 * b.val + s.val = i.val) :
    val_main_v19 x0 x1 x2 x3 x4 (ix2 i l) = entry (fun k => x0 (ix3 b s k)) (fun k => x1 (ix3 b s k)) (fun k => x2 (ix2 0 k))
      (fun k => x3 (ix3 0 k l)) (x4 (ix3 b s l)) := by
  have hs := s.isLt
  have e1 : (⟨i.val / 2048, by have := i.isLt; omega⟩ : Fin 4) = b := Fin.ext (by simp only []; omega)
  have e2 : (⟨i.val % 2048, by omega⟩ : Fin 2048) = s := Fin.ext (by simp only []; omega)
  pointwise [val_main_v16, val_main_v17, val_main_v18, val_main_v19, ref_gated, entry, e1, e2]

end

open Cert.OutOddIdeal Cert.OutOddIdeal.Gen

/-- The array the launch leaves is the reference's result of the same arguments. -/
theorem array_eq (m : (ℓ : Loc nD τ sig) → Buf (Elt Ideal) ℓ) (c : Dev nD) :
    (dats m 0 c).arrAt 5 cfg0.N = Cert.OutOddRefIdeal.Read.val_main_v19 (F := Ideal) (m (c.tc.loc main_arg0))
      (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp
  rw [after0_5]
  obtain ⟨r, l, rfl⟩ : ∃ (r : Fin 512) (l : Fin 2048), y = ix2 r l := ⟨y 0, y 1, eq_ix2 y⟩
  have ht := (idx t).2.2.2.2.2.2
  have hr := r.isLt
  have hat : At t.val r ⟨(512 * t.val + r.val) / 2048, by omega⟩ ⟨(512 * t.val + r.val) % 2048, Nat.mod_lt _ (by decide)⟩ := by
    unfold At; simp only []; omega
  refine (outs_apply m c t r l _ _ hat).trans ?_
  refine (ref_apply _ _ _ _ _ ⟨512 * t.val + r.val, by omega⟩ l _ _ (by unfold At at hat; exact hat)).symm.trans ?_
  blk_ext [idx t]

/-- The reference runs, leaves its arguments alone and ends with every counter at zero. -/
theorem frame_ref : Cert.quiescent_OutOddRefIdeal := fun m ρ _ =>
  (θ_run Cert.OutOddRefIdeal.defs _ _).mono (fun r h => ⟨fun c => (h c).2, sem_eq_zero_of_no_sems (by decide) r.2⟩)
    (Cert.OutOddRefIdeal.Value.run (F := Ideal) m ρ)

/-- The gated output projection's launch and its reference end with equal results. -/
theorem algebraic : Cert.algebraic_OutOddIdeal_OutOddRefIdeal := fun m g m' g' _ hagree =>
  ⟨fun c => (dats m 0 c).arrAt 5 cfg0.N, Cert.OutOddIdeal.Value.run_blocks m g,
    (θ_run Cert.OutOddRefIdeal.defs _ _).mono (fun r h c => by
      refine ⟨(h c).1.trans ((Cert.OutOddRefIdeal.Read.val_main_v19_eq _ _ _ _ _).trans ?_), (h c).2⟩
      obtain ⟨h0, h1, h2, h3, h4⟩ := hagree c
      rw [h0, h1, h2, h3, h4]
      exact (array_eq m c).symm)
    (Cert.OutOddRefIdeal.Value.run (F := Ideal) m' g')⟩

end Cert.OutOddValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_args
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.KernelIdeal.Value
public import proofs.«01_k».proof.Proof.Gen.FfnIdeal.Value
public import proofs.«01_k».proof.Proof.Gen.ReferenceIdeal.Run
public import proofs.«01_k».proof.Proof.Gen.FfnRefIdeal.Run
public import proofs.«01_k».proof.Proof.Gen.ReferenceIdeal.Read
public import proofs.«01_k».proof.Proof.Gen.FfnRefIdeal.Read
public import proofs.«01_k».proof.Proof.Gen.FfnFirst.Frame
public import proofs.«01_k».proof.Proof.Gen.FfnFirstIdeal.Frame
public import proofs.«01_k».proof.Proof.Gen.FfnFirstIdeal.Value
public import proofs.«01_k».proof.Proof.Gen.FfnFirstRefIdeal.Run
public import proofs.«01_k».proof.Proof.Gen.FfnFirstRefIdeal.Read
public import proofs.«01_k».proof.Proof.Gen.Gmlp.Frame
public import proofs.«01_k».proof.Proof.Gen.GmlpIdeal.Frame
public import proofs.«01_k».proof.Proof.Gen.GmlpIdeal.Value
public import proofs.«01_k».proof.Proof.Gen.GmlpRefIdeal.Run
public import proofs.«01_k».proof.Proof.Gen.GmlpRefIdeal.Read
public import proofs.«01_k».proof.Proof.Gen.ProjEven.Frame
public import proofs.«01_k».proof.Proof.Gen.ProjEvenIdeal.Frame
public import proofs.«01_k».proof.Proof.Gen.ProjEvenIdeal.Value
public import proofs.«01_k».proof.Proof.Gen.ProjEvenRefIdeal.Run
public import proofs.«01_k».proof.Proof.Gen.ProjEvenRefIdeal.Read
public import proofs.«01_k».proof.Proof.Gen.ProjGate
public import proofs.«01_k».proof.Proof.Gen.ProjGateIdeal.Launch
public import proofs.«01_k».proof.Proof.Gen.ProjGateIdeal.Points
public import proofs.«01_k».proof.Proof.Gen.ProjGateIdeal.Skeleton
public import proofs.«01_k».proof.Proof.Gen.ProjGateRefIdeal.Run
public import proofs.«01_k».proof.Proof.Gen.ProjGateRefIdeal.Read
public import proofs.«01_k».proof.Proof.Gen.OutEven.Frame
public import proofs.«01_k».proof.Proof.Gen.OutEvenIdeal.Frame
public import proofs.«01_k».proof.Proof.Gen.OutEvenIdeal.Value
public import proofs.«01_k».proof.Proof.Gen.OutEvenRefIdeal.Run
public import proofs.«01_k».proof.Proof.Gen.OutEvenRefIdeal.Read
public import proofs.«01_k».proof.Proof.Gen.OutOdd.Frame
public import proofs.«01_k».proof.Proof.Gen.OutOddIdeal.Frame
public import proofs.«01_k».proof.Proof.Gen.OutOddIdeal.Value
public import proofs.«01_k».proof.Proof.Gen.OutOddRefIdeal.Run
public import proofs.«01_k».proof.Proof.Gen.OutOddRefIdeal.Read
public import proofs.«01_k».proof.Proof.FfnClaim
public import proofs.«01_k».proof.Proof.AttnClaim
public import proofs.«01_k».proof.Proof.FirstClaim
public import proofs.«01_k».proof.Proof.GmlpClaim
public import proofs.«01_k».proof.Proof.ProjClaim
public import proofs.«01_k».proof.Proof.GateClaim
public import proofs.«01_k».proof.Proof.OutEvenClaim
public import proofs.«01_k».proof.Proof.OutOddClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the attention call runs without faulting, leaves its arguments unchanged and every
semaphore counter at zero. -/
theorem frame_reference : Cert.quiescent_ReferenceIdeal := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

/-- The scale literal of the attention kernel names the real number `1 / (8 log 2)`. -/
theorem scale_preserved : Cert.preserves_Kernel_KernelIdeal :=
  IdealRules.named_const.statement Cert.KernelIdeal.κ "scale" .f32 0x3E38AA3B#32
    (((8 * (Real.log 2))⁻¹ : ℝ) : EReal) rfl

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.FfnFirst.Gen.facts, Cert.FfnFirstIdeal.Gen.facts, Cert.FfnFirstRefIdeal.Gen.facts, Cert.Gmlp.Gen.facts, Cert.GmlpIdeal.Gen.facts, Cert.GmlpRefIdeal.Gen.facts, Cert.ProjEven.Gen.facts, Cert.ProjEvenIdeal.Gen.facts, Cert.ProjEvenRefIdeal.Gen.facts, Cert.ProjGate.Gen.facts, Cert.ProjGateIdeal.Gen.facts, Cert.ProjGateRefIdeal.Gen.facts, Cert.OutEven.Gen.facts, Cert.OutEvenIdeal.Gen.facts, Cert.OutEvenRefIdeal.Gen.facts, Cert.OutOdd.Gen.facts, Cert.OutOddIdeal.Gen.facts, Cert.OutOddRefIdeal.Gen.facts, Cert.Pre_finite_args.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Ffn.Gen.frame m ρ,
  fun m ρ _ => Cert.FfnIdeal.Gen.frame m ρ,
  Cert.FfnValue.frame_ref,
  fun m ρ _ => Cert.FfnFirst.Gen.frame m ρ,
  fun m ρ _ => Cert.FfnFirstIdeal.Gen.frame m ρ,
  Cert.FirstValue.frame_ref,
  fun m ρ _ => Cert.Gmlp.Gen.frame m ρ,
  fun m ρ _ => Cert.GmlpIdeal.Gen.frame m ρ,
  Cert.GmlpValue.frame_ref,
  fun m ρ _ => Cert.ProjEven.Gen.frame m ρ,
  fun m ρ _ => Cert.ProjEvenIdeal.Gen.frame m ρ,
  Cert.ProjValue.frame_ref,
  Cert.GateValue.frame_gate,
  fun m ρ _ => Cert.GateValue.frame m ρ,
  Cert.GateValue.frame_ref,
  fun m ρ _ => Cert.OutEven.Gen.frame m ρ,
  fun m ρ _ => Cert.OutEvenIdeal.Gen.frame m ρ,
  Cert.OutEvenValue.frame_ref,
  fun m ρ _ => Cert.OutOdd.Gen.frame m ρ,
  fun m ρ _ => Cert.OutOddIdeal.Gen.frame m ρ,
  Cert.OutOddValue.frame_ref,
  scale_preserved,
  Cert.AttnValue.algebraic,
  trivial,
  Cert.FfnValue.algebraic,
  trivial,
  Cert.FirstValue.algebraic,
  trivial,
  Cert.GmlpValue.algebraic,
  trivial,
  Cert.ProjValue.algebraic,
  trivial,
  Cert.GateValue.algebraic,
  trivial,
  Cert.OutEvenValue.algebraic,
  trivial,
  Cert.OutOddValue.algebraic⟩

end Cert.Proof

end
